-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v2)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v7_3) = v3 c
          ∧ r.2.mem ((c.tc : Thread Cert.ReferenceIdeal.nD Cert.ReferenceIdeal.τ).loc Cert.ReferenceIdeal.main_v9) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x8192 : Shape := ⟨3, ![4, 2048, 8192]⟩
abbrev S3072x8192 : Shape := ⟨2, ![3072, 8192]⟩
abbrev S8192x8192 : Shape := ⟨2, ![8192, 8192]⟩
abbrev S8x128 : Shape := ⟨2, ![8, 128]⟩
abbrev S256x8192 : Shape := ⟨2, ![256, 8192]⟩
abbrev S96x8192 : Shape := ⟨2, ![96, 8192]⟩
abbrev S16x8192 : Shape := ⟨2, ![16, 8192]⟩
abbrev S8x8192 : Shape := ⟨2, ![8, 8192]⟩
abbrev S16x16x8192 : Shape := ⟨3, ![16, 16, 8192]⟩
abbrev S12x8x8192 : Shape := ⟨3, ![12, 8, 8192]⟩
abbrev S1x16x8192 : Shape := ⟨3, ![1, 16, 8192]⟩
abbrev S1 : Shape := ⟨1, ![1]⟩
abbrev S1x1x1 : Shape := ⟨3, ![1, 1, 1]⟩
abbrev S1x1 : Shape := ⟨2, ![1, 1]⟩
abbrev S1x8x8192 : Shape := ⟨3, ![1, 8, 8192]⟩
abbrev S4x2048x3072 : Shape := ⟨3, ![4, 2048, 3072]⟩
abbrev S512x8192 : Shape := ⟨2, ![512, 8192]⟩
abbrev S1x512x3072 : Shape := ⟨3, ![1, 512, 3072]⟩
abbrev S512x256 : Shape := ⟨2, ![512, 256]⟩
abbrev S512x512 : Shape := ⟨2, ![512, 512]⟩
abbrev S1x512x512 : Shape := ⟨3, ![1, 512, 512]⟩
abbrev S_ : Shape := ⟨0, ![]⟩

abbrev nBuf : Space → Nat
  | .hbm => 12
  | .vmem => 20
  | .smem => 0
  | _ => 0

abbrev bufTy : (tb : Table) → Fin (tcTables nBuf tb) → BufTy
  | .hbm, ⟨0, _⟩ => ⟨S4x2048x8192, .bf16⟩
  | .hbm, ⟨1, _⟩ => ⟨S3072x8192, .f32⟩
  | .hbm, ⟨2, _⟩ => ⟨S8192x8192, .bf16⟩
  | .hbm, ⟨3, _⟩ => ⟨S8x128, .f32⟩
  | .hbm, ⟨4, _⟩ => ⟨S3072x8192, .fp8e4m3⟩
  | .hbm, ⟨5, _⟩ => ⟨S4x2048x3072, .bf16⟩
  | .hbm, ⟨6, _⟩ => ⟨S8192x8192, .fp8e5m2⟩
  | .hbm, ⟨7, _⟩ => ⟨S4x2048x8192, .fp8e5m2⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .local _ .vmem, ⟨0, _⟩ => ⟨S256x8192, .bf16⟩
  | .local _ .vmem, ⟨1, _⟩ => ⟨S256x8192, .bf16⟩
  | .local _ .vmem, ⟨2, _⟩ => ⟨S96x8192, .f32⟩
  | .local _ .vmem, ⟨3, _⟩ => ⟨S96x8192, .f32⟩
  | .local _ .vmem, ⟨4, _⟩ => ⟨S8x128, .f32⟩
  | .local _ .vmem, ⟨5, _⟩ => ⟨S16x8192, .bf16⟩
  | .local _ .vmem, ⟨6, _⟩ => ⟨S8x8192, .f32⟩
  | .local _ .vmem, ⟨7, _⟩ => ⟨S8x128, .f32⟩
  | .local _ .vmem, ⟨8, _⟩ => ⟨S256x8192, .f32⟩
  | .local _ .vmem, ⟨9, _⟩ => ⟨S256x8192, .f32⟩
  | .local _ .vmem, ⟨10, _⟩ => ⟨S256x8192, .fp8e4m3⟩
  | .local _ .vmem, ⟨11, _⟩ => ⟨S256x8192, .fp8e4m3⟩
  | .local _ .vmem, ⟨12, _⟩ => ⟨S8x128, .f32⟩
  | .local _ .vmem, ⟨13, _⟩ => ⟨S512x8192, .bf16⟩
  | .local _ .vmem, ⟨14, _⟩ => ⟨S512x8192, .bf16⟩
  | .local _ .vmem, ⟨15, _⟩ => ⟨S3072x8192, .fp8e4m3⟩
  | .local _ .vmem, ⟨16, _⟩ => ⟨S1x512x3072, .bf16⟩
  | .local _ .vmem, ⟨17, _⟩ => ⟨S1x512x3072, .bf16⟩
  | .local _ .vmem, ⟨18, _⟩ => ⟨S512x8192, .fp8e5m2⟩
  | .local _ .vmem, ⟨19, _⟩ => ⟨S512x8192, .fp8e5m2⟩
  | _, _ => ⟨S4x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem3_1 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v22 : BitVec 1 := Scalar.cmpi .eq arg0 c31_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x8192 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S8x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x8192 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3072x8192 .fp8e4m3 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x512x3072 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x8192 .fp8e5m2 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S4x2048x8192 : Shape := ⟨3, ![4, 2048, 8192]⟩
abbrev S3072x8192 : Shape := ⟨2, ![3072, 8192]⟩
abbrev S_ : Shape := ⟨0, ![]⟩
abbrev S1x1 : Shape := ⟨2, ![1, 1]⟩
abbrev S4x2048x3072 : Shape := ⟨3, ![4, 2048, 3072]⟩
abbrev S8192x8192 : Shape := ⟨2, ![8192, 8192]⟩
abbrev S8192x3072 : Shape := ⟨2, ![8192, 3072]⟩

abbrev nBuf : Space → Nat
  | .hbm => 18
  | .vmem => 9
  | .smem => 0
  | _ => 0

abbrev bufTy : (tb : Table) → Fin (tcTables nBuf tb) → BufTy
  | .hbm, ⟨0, _⟩ => ⟨S4x2048x8192, .bf16⟩
  | .hbm, ⟨1, _⟩ => ⟨S3072x8192, .f32⟩
  | .hbm, ⟨2, _⟩ => ⟨S4x2048x8192, .f32⟩
  | .hbm, ⟨3, _⟩ => ⟨S4x2048x8192, .f32⟩
  | .hbm, ⟨4, _⟩ => ⟨S_, .f32⟩
  | .hbm, ⟨5, _⟩ => ⟨S_, .f32⟩
  | .hbm, ⟨6, _⟩ => ⟨S3072x8192, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S1x1, .f32⟩
  | .hbm, ⟨11, _⟩ => ⟨S4x2048x3072, .bf16⟩
  | .hbm, ⟨12, _⟩ => ⟨S4x2048x8192, .fp8e5m2⟩
  | .hbm, ⟨13, _⟩ => ⟨S1x1, .f32⟩
  | .hbm, ⟨14, _⟩ => ⟨S3072x8192, .fp8e4m3⟩
  | .hbm, ⟨15, _⟩ => ⟨S1x1, .f32⟩
  | .hbm, ⟨16, _⟩ => ⟨S_, .f32⟩
  | .hbm, ⟨17, _⟩ => ⟨S_, .f32⟩
  | .local _ .vmem, ⟨0, _⟩ => ⟨S1x1, .f32⟩
  | .local _ .vmem, ⟨1, _⟩ => ⟨S1x1, .f32⟩
  | .local _ .vmem, ⟨2, _⟩ => ⟨S4x2048x8192, .bf16⟩
  | .local _ .vmem, ⟨3, _⟩ => ⟨S3072x8192, .f32⟩
  | .local _ .vmem, ⟨4, _⟩ => ⟨S4x2048x3072, .bf16⟩
  | .local _ .vmem, ⟨5, _⟩ => ⟨S4x2048x8192, .fp8e5m2⟩
  | .local _ .vmem, ⟨6, _⟩ => ⟨S1x1, .f32⟩
  | .local _ .vmem, ⟨7, _⟩ => ⟨S3072x8192, .fp8e4m3⟩
  | .local _ .vmem, ⟨8, _⟩ => ⟨S1x1, .f32⟩
  | _, _ => ⟨S4x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "log2_e" => some (((Real.log 2)⁻¹ : ℝ) : EReal)
  | _ => none

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2048x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2048x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2048x8192 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x8192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Kernel.K0.lean ====
/- The first kernel of `Kernel` (`amax_scales`, 32 grid points): its run in each of the three cases of its
   conditionals (first point, middle points, last point), what the two carried accumulators and the output hold
   after each point, the proof data and the body obligation, from any contents `V` of the buffers at the
   region's entry. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Claim

@[expose] public section

-- rectangles of production extents: membership recurses once per coordinate of the long axes
set_option maxRecDepth 16384

noncomputable section

namespace Cert.Kernel.Own.K0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- At the points of case A the printed configuration (`Cfg.idle`) calls output 2 idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cfg0.idle 2 (grid0.coords t) = false := by decide +kernel

/-! ## The kernel body on any staging memrefs: a subtype the run finds -/

/-- One staging buffer of output window 2, through which its contents are stated (`View.read_writes_of_cover`: the
    choice does not matter). -/
abbrev VO0_2 : View sig .tc .vmem S8x128 .f32 := (Memref.whole cc0_stg2_0 : Memref sig .tc .vmem S8x128 .f32).view
/-- Each window's current staging memref at point `t`, spelled as the pipeline passes it (`bodyAt0`), and its wholeness. -/
abbrev ms0_0 (t : Fin cfg0.N) : Memref sig .tc .vmem S256x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S96x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S16x8192 .bf16 := Memref.whole cc0_scratch0
abbrev scM0_1 : Memref sig .tc .vmem S8x8192 .f32 := Memref.whole cc0_scratch1
/-- The scratch `arg4` the kernel carries between points, as a view: what it holds is stated through it. -/
abbrev VS0_0 : View sig .tc .vmem S16x8192 .bf16 := scM0_0.view
/-- The scratch `arg5` the kernel carries between points, as a view: what it holds is stated through it. -/
abbrev VS0_1 : View sig .tc .vmem S8x8192 .f32 := scM0_1.view

/-- The scoped buffers that this kernel neither stages nor uses as scratch (the staging buffers of the other two kernels), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The region's invariant with the two accumulators as memrefs owned at some contents, the other scoped buffers beside them. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others (F := F) c) ∗ (∃ r, prngReg c r)) := by
  unfold Pipeline.ΦA others; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
   , which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : cond0_0 i) (hc1 : ¬cond0_1 i)
    (x0 : Vec F S256x8192 .bf16) (x1 : Vec F S96x8192 .f32) :
    Σ' (L2 : List (View.Piece (Elt F) S8x128 .f32)), Σ' (LS0 : List (View.Piece (Elt F) S16x8192 .bf16)), { LS1 : List (View.Piece (Elt F) S8x8192 .f32) //
      ∀ (xi2 : Vec F S8x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_amax_scales i arg1 harg1 arg2 harg2 arg3 harg3 arg4 harg4 arg5 harg5) K } := by
  refine ⟨[], ?_, ?_, fun xi2 E K => ?run⟩
  case run =>
    simp only [cc0_amax_scales_eq_skeleton]; unfold cc0_amax_scales_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 30: 30 of 32), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
   , which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : ¬cond0_1 i)
    (x0 : Vec F S256x8192 .bf16) (x1 : Vec F S96x8192 .f32) (xs0 : Vec F S16x8192 .bf16) (xs1 : Vec F S8x8192 .f32) :
    Σ' (L2 : List (View.Piece (Elt F) S8x128 .f32)), Σ' (LS0 : List (View.Piece (Elt F) S16x8192 .bf16)), { LS1 : List (View.Piece (Elt F) S8x8192 .f32) //
      ∀ (xi2 : Vec F S8x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_amax_scales i arg1 harg1 arg2 harg2 arg3 harg3 arg4 harg4 arg5 harg5) K } := by
  refine ⟨[], ?_, ?_, fun xi2 E K => ?run⟩
  case run =>
    simp only [cc0_amax_scales_eq_skeleton]; unfold cc0_amax_scales_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hfs0; obtain rfl := harg5.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE C (`scf.if` 0 not taken, `scf.if` 1 taken: points 31), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
   , which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : cond0_1 i)
    (x0 : Vec F S256x8192 .bf16) (x1 : Vec F S96x8192 .f32) (xs0 : Vec F S16x8192 .bf16) (xs1 : Vec F S8x8192 .f32) :
    Σ' (L2 : List (View.Piece (Elt F) S8x128 .f32)), Σ' (LS0 : List (View.Piece (Elt F) S16x8192 .bf16)), { LS1 : List (View.Piece (Elt F) S8x8192 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_amax_scales i arg1 harg1 arg2 harg2 arg3 harg3 arg4 harg4 arg5 harg5) K } := by
  refine ⟨?_, ?_, ?_, fun E K => ?run⟩
  case run =>
    simp only [cc0_amax_scales_eq_skeleton]; unfold cc0_amax_scales_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1; obtain rfl := harg4.eq_unread hfs0; obtain rfl := harg5.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : cond0_0 i) (hc1 : ¬cond0_1 i)
    (x0 : Vec F S256x8192 .bf16) (x1 : Vec F S96x8192 .f32) : Vec F S8x128 .f32 :=
  VO0_2.read (Elt F) (VO0_2.writes (Elt F) VO0_2.junk (kernelRun0_A c i arg1 harg1 arg2 harg2 arg3 harg3 arg4 harg4 arg5 harg5 hc0 hc1 x0 x1).1)

/-- Case A's pieces for scratch `arg4`, which the kernel carries between points, cover it: 2 pieces of `S16x8192` tiling it (Lib/Ring.lean `Piece.tiledL`). -/
theorem scover0_A_0 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : cond0_0 i) (hc1 : ¬cond0_1 i)
    (x0 : Vec F S256x8192 .bf16) (x1 : Vec F S96x8192 .f32) (y : S16x8192.Idx) :
    ∃ pc ∈ (kernelRun0_A c i arg1 harg1 arg2 harg2 arg3 harg3 arg4 harg4 arg5 harg5 hc0 hc1 x0 x1).2.1, y ∈ pc.1.set :=
  View.cover_of_tiledL (kernelRun0_A c i arg1 harg1 arg2 harg2 arg3 harg3 arg4 harg4 arg5 harg5 hc0 hc1 x0 x1).2.1 S16x8192.size (by sl_kernel_rfl) y

/-- What case A leaves in scratch `arg4`: its pieces read back over junk. -/
def sout0_A_0 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : cond0_0 i) (hc1 : ¬cond0_1 i)
    (x0 : Vec F S256x8192 .bf16) (x1 : Vec F S96x8192 .f32) : Vec F S16x8192 .bf16 :=
  VS0_0.read (Elt F) (VS0_0.writes (Elt F) VS0_0.junk (kernelRun0_A c i arg1 harg1 arg2 harg2 arg3 harg3 arg4 harg4 arg5 harg5 hc0 hc1 x0 x1).2.1)

/-- Case A's pieces for scratch `arg5`, which the kernel carries between points, cover it: 2 pieces of `S8x8192` tiling it (Lib/Ring.lean `Piece.tiledL`). -/
theorem scover0_A_1 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : cond0_0 i) (hc1 : ¬cond0_1 i)
    (x0 : Vec F S256x8192 .bf16) (x1 : Vec F S96x8192 .f32) (y : S8x8192.Idx) :
    ∃ pc ∈ (kernelRun0_A c i arg1 harg1 arg2 harg2 arg3 harg3 arg4 harg4 arg5 harg5 hc0 hc1 x0 x1).2.2.1, y ∈ pc.1.set :=
  View.cover_of_tiledL (kernelRun0_A c i arg1 harg1 arg2 harg2 arg3 harg3 arg4 harg4 arg5 harg5 hc0 hc1 x0 x1).2.2.1 S8x8192.size (by sl_kernel_rfl) y

/-- What case A leaves in scratch `arg5`: its pieces read back over junk. -/
def sout0_A_1 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : cond0_0 i) (hc1 : ¬cond0_1 i)
    (x0 : Vec F S256x8192 .bf16) (x1 : Vec F S96x8192 .f32) : Vec F S8x8192 .f32 :=
  VS0_1.read (Elt F) (VS0_1.writes (Elt F) VS0_1.junk (kernelRun0_A c i arg1 harg1 arg2 harg2 arg3 harg3 arg4 harg4 arg5 harg5 hc0 hc1 x0 x1).2.2.1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : ¬cond0_1 i)
    (x0 : Vec F S256x8192 .bf16) (x1 : Vec F S96x8192 .f32) (xs0 : Vec F S16x8192 .bf16) (xs1 : Vec F S8x8192 .f32) : Vec F S8x128 .f32 :=
  VO0_2.read (Elt F) (VO0_2.writes (Elt F) VO0_2.junk (kernelRun0_B c i arg1 harg1 arg2 harg2 arg3 harg3 arg4 harg4 arg5 harg5 hc0 hc1 x0 x1 xs0 xs1).1)

/-- Case B's pieces for scratch `arg4`, which the kernel carries between points, cover it: 1 piece of `S16x8192` tiling it (Lib/Ring.lean `Piece.tiledL`). -/
theorem scover0_B_0 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : ¬cond0_1 i)
    (x0 : Vec F S256x8192 .bf16) (x1 : Vec F S96x8192 .f32) (xs0 : Vec F S16x8192 .bf16) (xs1 : Vec F S8x8192 .f32) (y : S16x8192.Idx) :
    ∃ pc ∈ (kernelRun0_B c i arg1 harg1 arg2 harg2 arg3 harg3 arg4 harg4 arg5 harg5 hc0 hc1 x0 x1 xs0 xs1).2.1, y ∈ pc.1.set :=
  View.cover_of_tiledL (kernelRun0_B c i arg1 harg1 arg2 harg2 arg3 harg3 arg4 harg4 arg5 harg5 hc0 hc1 x0 x1 xs0 xs1).2.1 S16x8192.size (by sl_kernel_rfl) y

/-- What case B leaves in scratch `arg4`: its pieces read back over junk. -/
def sout0_B_0 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : ¬cond0_1 i)
    (x0 : Vec F S256x8192 .bf16) (x1 : Vec F S96x8192 .f32) (xs0 : Vec F S16x8192 .bf16) (xs1 : Vec F S8x8192 .f32) : Vec F S16x8192 .bf16 :=
  VS0_0.read (Elt F) (VS0_0.writes (Elt F) VS0_0.junk (kernelRun0_B c i arg1 harg1 arg2 harg2 arg3 harg3 arg4 harg4 arg5 harg5 hc0 hc1 x0 x1 xs0 xs1).2.1)

/-- Case B's pieces for scratch `arg5`, which the kernel carries between points, cover it: 1 piece of `S8x8192` tiling it (Lib/Ring.lean `Piece.tiledL`). -/
theorem scover0_B_1 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : ¬cond0_1 i)
    (x0 : Vec F S256x8192 .bf16) (x1 : Vec F S96x8192 .f32) (xs0 : Vec F S16x8192 .bf16) (xs1 : Vec F S8x8192 .f32) (y : S8x8192.Idx) :
    ∃ pc ∈ (kernelRun0_B c i arg1 harg1 arg2 harg2 arg3 harg3 arg4 harg4 arg5 harg5 hc0 hc1 x0 x1 xs0 xs1).2.2.1, y ∈ pc.1.set :=
  View.cover_of_tiledL (kernelRun0_B c i arg1 harg1 arg2 harg2 arg3 harg3 arg4 harg4 arg5 harg5 hc0 hc1 x0 x1 xs0 xs1).2.2.1 S8x8192.size (by sl_kernel_rfl) y

/-- What case B leaves in scratch `arg5`: its pieces read back over junk. -/
def sout0_B_1 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : ¬cond0_1 i)
    (x0 : Vec F S256x8192 .bf16) (x1 : Vec F S96x8192 .f32) (xs0 : Vec F S16x8192 .bf16) (xs1 : Vec F S8x8192 .f32) : Vec F S8x8192 .f32 :=
  VS0_1.read (Elt F) (VS0_1.writes (Elt F) VS0_1.junk (kernelRun0_B c i arg1 harg1 arg2 harg2 arg3 harg3 arg4 harg4 arg5 harg5 hc0 hc1 x0 x1 xs0 xs1).2.2.1)

/-- Case C's pieces for output 2 tile its block (1 store of `S8x128`, checked by the kernel's evaluation: Lib/Ring.lean `Piece.tiledL`, linear in the pieces, through a loop's `@[irreducible]` trip theorem too), so they cover it. -/
theorem cover0_C_2 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : cond0_1 i)
    (x0 : Vec F S256x8192 .bf16) (x1 : Vec F S96x8192 .f32) (xs0 : Vec F S16x8192 .bf16) (xs1 : Vec F S8x8192 .f32) (y : S8x128.Idx) :
    ∃ pc ∈ (kernelRun0_C c i arg1 harg1 arg2 harg2 arg3 harg3 arg4 harg4 arg5 harg5 hc0 hc1 x0 x1 xs0 xs1).1, y ∈ pc.1.set :=
  View.cover_of_tiledL (kernelRun0_C c i arg1 harg1 arg2 harg2 arg3 harg3 arg4 harg4 arg5 harg5 hc0 hc1 x0 x1 xs0 xs1).1 S8x128.size (by sl_kernel_rfl) y

/-- What case C leaves in output 2's staging buffer: its pieces read back over junk. -/
def out0_C_2 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : cond0_1 i)
    (x0 : Vec F S256x8192 .bf16) (x1 : Vec F S96x8192 .f32) (xs0 : Vec F S16x8192 .bf16) (xs1 : Vec F S8x8192 .f32) : Vec F S8x128 .f32 :=
  VO0_2.read (Elt F) (VO0_2.writes (Elt F) VO0_2.junk (kernelRun0_C c i arg1 harg1 arg2 harg2 arg3 harg3 arg4 harg4 arg5 harg5 hc0 hc1 x0 x1 xs0 xs1).1)

/-- Case C's pieces for scratch `arg4`, which the kernel carries between points, cover it: 1 piece of `S16x8192` tiling it (Lib/Ring.lean `Piece.tiledL`). -/
theorem scover0_C_0 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : cond0_1 i)
    (x0 : Vec F S256x8192 .bf16) (x1 : Vec F S96x8192 .f32) (xs0 : Vec F S16x8192 .bf16) (xs1 : Vec F S8x8192 .f32) (y : S16x8192.Idx) :
    ∃ pc ∈ (kernelRun0_C c i arg1 harg1 arg2 harg2 arg3 harg3 arg4 harg4 arg5 harg5 hc0 hc1 x0 x1 xs0 xs1).2.1, y ∈ pc.1.set :=
  View.cover_of_tiledL (kernelRun0_C c i arg1 harg1 arg2 harg2 arg3 harg3 arg4 harg4 arg5 harg5 hc0 hc1 x0 x1 xs0 xs1).2.1 S16x8192.size (by sl_kernel_rfl) y

/-- What case C leaves in scratch `arg4`: its pieces read back over junk. -/
def sout0_C_0 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : cond0_1 i)
    (x0 : Vec F S256x8192 .bf16) (x1 : Vec F S96x8192 .f32) (xs0 : Vec F S16x8192 .bf16) (xs1 : Vec F S8x8192 .f32) : Vec F S16x8192 .bf16 :=
  VS0_0.read (Elt F) (VS0_0.writes (Elt F) VS0_0.junk (kernelRun0_C c i arg1 harg1 arg2 harg2 arg3 harg3 arg4 harg4 arg5 harg5 hc0 hc1 x0 x1 xs0 xs1).2.1)

/-- Case C's pieces for scratch `arg5`, which the kernel carries between points, cover it: 1 piece of `S8x8192` tiling it (Lib/Ring.lean `Piece.tiledL`). -/
theorem scover0_C_1 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : cond0_1 i)
    (x0 : Vec F S256x8192 .bf16) (x1 : Vec F S96x8192 .f32) (xs0 : Vec F S16x8192 .bf16) (xs1 : Vec F S8x8192 .f32) (y : S8x8192.Idx) :
    ∃ pc ∈ (kernelRun0_C c i arg1 harg1 arg2 harg2 arg3 harg3 arg4 harg4 arg5 harg5 hc0 hc1 x0 x1 xs0 xs1).2.2.1, y ∈ pc.1.set :=
  View.cover_of_tiledL (kernelRun0_C c i arg1 harg1 arg2 harg2 arg3 harg3 arg4 harg4 arg5 harg5 hc0 hc1 x0 x1 xs0 xs1).2.2.1 S8x8192.size (by sl_kernel_rfl) y

/-- What case C leaves in scratch `arg5`: its pieces read back over junk. -/
def sout0_C_1 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : cond0_1 i)
    (x0 : Vec F S256x8192 .bf16) (x1 : Vec F S96x8192 .f32) (xs0 : Vec F S16x8192 .bf16) (xs1 : Vec F S8x8192 .f32) : Vec F S8x8192 .f32 :=
  VS0_1.read (Elt F) (VS0_1.writes (Elt F) VS0_1.junk (kernelRun0_C c i arg1 harg1 arg2 harg2 arg3 harg3 arg4 harg4 arg5 harg5 hc0 hc1 x0 x1 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x128 .f32 × Vec F S16x8192 .bf16 × Vec F S8x8192 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩))
  | n + 1, hn =>
    if h0 : (n + 1) % 32 = 0 then
      if h1 : (n + 1) % 32 = 31 then
        False.elim (by have hN : n + 1 < 32 := lt_of_lt_of_eq hn (show cfg0.N = 32 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩))
    else
      if h1 : (n + 1) % 32 = 31 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2.1 (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 32 = 0) (h1 : ¬t.val % 32 = 31) :
    outsAt0 V c t.val t.isLt = (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 V c t.val t.isLt = (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 V c t.val t.isLt = (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ others (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ others (F := F) c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ others (F := F) c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = (outsAt0 V c t.val t.isLt).1 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [Dat.leavesExact_idle (dat V c) 2 t (idleAt0_2_A t ((hcond0_0 t).mpr h0) (fun h => h1 ((hcond0_1 t).mp h))) (noFlush0_2_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0 sout0_A_1; (try dsimp only)
        iintro ⟨⟨⟨HS0, HS1, HR⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk V c 0 t) (iblk V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _)
            iexact HR
          iexact Hg
        isplitl [Ho]; · iexact Ho
        isplitl [H0]; · iexact H0
        isplitl [H1]; · iexact H1
        iexists _; iexact H2
      · exfalso; have hN : t.val < 32 := lt_of_lt_of_eq t.isLt (show cfg0.N = 32 from N_0); omega
  · by_cases h1 : t.val % 32 = 31
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2_C t (fun h => h0 ((hcond0_0 t).mp h)) ((hcond0_1 t).mpr h1)], after0_2]
      by_cases hz : t.val = 0
      · exfalso; have hN : t.val < 32 := lt_of_lt_of_eq t.isLt (show cfg0.N = 32 from N_0); omega
      · rw [PhiS_castSucc V c t, PhiS_pos V c _ _ hz]
        rw [outsAt0_C V c t h0 h1]
        unfold out0_C_2 sout0_C_0 sout0_C_1; (try dsimp only)
        iintro ⟨⟨⟨HS0, HS1, HR⟩, Hg⟩, Ho, ⟨%d0, H0⟩, ⟨%d1, H1⟩, ⟨%d2, H2⟩⟩
        iapply ((kernelRun0_C c (grid0.coords t) _ _ _ _ _ _ _ _ _ _ (fun h => h0 ((hcond0_0 t).mp h)) ((hcond0_1 t).mpr h1) (iblk V c 0 t) (iblk V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _)
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [Dat.leavesExact_idle (dat V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc V c t, PhiS_pos V c _ _ hz]
        rw [outsAt0_B V c t h0 h1]
        unfold sout0_B_0 sout0_B_1; (try dsimp only)
        iintro ⟨⟨⟨HS0, HS1, HR⟩, Hg⟩, Ho, ⟨%d0, H0⟩, ⟨%d1, H1⟩, ⟨%d2, H2⟩⟩
        iapply ((kernelRun0_B c (grid0.coords t) _ _ _ _ _ _ _ _ _ _ (fun h => h0 ((hcond0_0 t).mp h)) (fun h => h1 ((hcond0_1 t).mp h)) (iblk V c 0 t) (iblk V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _)
            iexact HR
          iexact Hg
        isplitl [Ho]; · iexact Ho
        isplitl [H0]; · iexact H0
        isplitl [H1]; · iexact H1
        iexists _; iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]
    · iexists _; iexact HS0
    isplitl [HS1]
    · iexists _; iexact HS1
    iexact HR
  iexact Hg

/-- The same after the last point. -/
theorem hout (c : Dev nD) : (dat V c).Φ (Fin.last cfg0.N) ⊢ Pipeline.ΦA spec0 c :=
  Phi_out V c _ (by rw [Fin.val_last]; have : cfg0.N = 32 := N_0; omega)

end Cert.Kernel.Own.K0

end
-- ==== Proof.Kernel.K1.lean ====
/- The second kernel of `Kernel` (`w_quant`, 12 grid points): its run, the proof data and the body obligation,
   for any index type, level type, algebra, variants, entry contents `V` and owed tally `D`. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Claim

@[expose] public section

-- rectangles of production extents: membership recurses once per coordinate of the long axes
set_option maxRecDepth 16384

noncomputable section

namespace Cert.Kernel.Own.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec1 c` at any index and level type. -/
def ΦK (c : Dev nD) : sProp 𝕄 :=
  iprop(Pipeline.scopedRest (Ix := Ix) (Name := ℕ) (U := U) (Lvl := Lvl) (Val := Elt F) spec1 c ∗ ∃ r, prngReg c r)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Ix ℕ U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Ix ℕ U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO1_2 : View sig .tc .vmem S256x8192 .fp8e4m3 := (Memref.whole cc1_stg2_0 : Memref sig .tc .vmem S256x8192 .fp8e4m3).view
/-- Each window's current staging memref at point `t`, spelled as the pipeline passes it (`bodyAt1`), and its wholeness. -/
abbrev ms1_0 (t : Fin cfg1.N) : Memref sig .tc .vmem S8x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x8192 .fp8e4m3 := win1_2.stage (cfg1.slots t 2)
abbrev hs1_2 (t : Fin cfg1.N) : (ms1_2 t).IsWhole := hstage1_2 ((cfg1.slots t 2).cast nbuf1_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S8x128 .f32) (harg1 : arg1.IsWhole) (arg2 : Memref sig .tc .vmem S256x8192 .f32) (harg2 : arg2.IsWhole) (arg3 : Memref sig .tc .vmem S256x8192 .fp8e4m3) (harg3 : arg3.IsWhole)
    (x0 : Vec F S8x128 .f32) (x1 : Vec F S256x8192 .f32) :
    { L2 : List (View.Piece (Elt F) S256x8192 .fp8e4m3) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) 𝒱₀ c none) E (cc1_w_quant i arg1 harg1 arg2 harg2 arg3 harg3) K } := by
  refine ⟨?_, fun E K => ?run⟩
  case run =>
    simp only [cc1_w_quant_eq_skeleton]; unfold cc1_w_quant_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces for output 2 tile its block (1 store of `S256x8192`, checked by the kernel's evaluation: Lib/Ring.lean `Piece.tiledL`, linear in the pieces, through a loop's `@[irreducible]` trip theorem too), so they cover it. -/
theorem cover1_A_2 (c : Dev nD) (i : grid1.Coords) (arg1 : Memref sig .tc .vmem S8x128 .f32) (harg1 : arg1.IsWhole) (arg2 : Memref sig .tc .vmem S256x8192 .f32) (harg2 : arg2.IsWhole) (arg3 : Memref sig .tc .vmem S256x8192 .fp8e4m3) (harg3 : arg3.IsWhole)
    (x0 : Vec F S8x128 .f32) (x1 : Vec F S256x8192 .f32) (y : S256x8192.Idx) :
    ∃ pc ∈ (kernelRun1_A (Ix := Ix) (U := U) (Lvl := Lvl) 𝒱₀ c i arg1 harg1 arg2 harg2 arg3 harg3 x0 x1).1, y ∈ pc.1.set :=
  View.cover_of_tiledL (kernelRun1_A (Ix := Ix) (U := U) (Lvl := Lvl) 𝒱₀ c i arg1 harg1 arg2 harg2 arg3 harg3 x0 x1).1 S256x8192.size (by sl_kernel_rfl) y

/-- What the run leaves in output 2's staging buffer: its pieces read back over junk. -/
def out1_A_2 (c : Dev nD) (i : grid1.Coords) (arg1 : Memref sig .tc .vmem S8x128 .f32) (harg1 : arg1.IsWhole) (arg2 : Memref sig .tc .vmem S256x8192 .f32) (harg2 : arg2.IsWhole) (arg3 : Memref sig .tc .vmem S256x8192 .fp8e4m3) (harg3 : arg3.IsWhole)
    (x0 : Vec F S8x128 .f32) (x1 : Vec F S256x8192 .f32) : Vec F S256x8192 .fp8e4m3 :=
  VO1_2.read (Elt F) (VO1_2.writes (Elt F) VO1_2.junk (kernelRun1_A (Ix := Ix) (U := U) (Lvl := Lvl) 𝒱₀ c i arg1 harg1 arg2 harg2 arg3 harg3 x0 x1).1)

/-! ## What the outputs hold after each point -/

/-- What the outputs' staging buffers hold after the body at point `t`: the run's contents at
    the point's memrefs and input blocks. -/
def outsAt1 (c : Dev nD) (t : Fin cfg1.N) : Vec F S256x8192 .fp8e4m3 :=
  out1_A_2 (Ix := Ix) (U := U) (Lvl := Lvl) 𝒱₀ c (grid1.coords t) (ms1_0 t) (hs1_0 t) (ms1_1 t) (hs1_1 t) (ms1_2 t) (hs1_2 t) (iblk V c 0 t) (iblk V c 1 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); the core owing `D c` throughout; full shares. -/
def dat (c : Dev nD) : Dat τ (Elt F) Ix ℕ U Lvl cfg1 c where
  A w := V c (Pipeline.arrRef spec1 w)
  after w t := match w with
    | ⟨0, _⟩ => iblk V c 0 t
    | ⟨1, _⟩ => iblk V c 1 t
    | ⟨2, _⟩ => (outsAt1 (Ix := Ix) (U := U) (Lvl := Lvl) 𝒱₀ V c t)
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg1.W) : (dat (Ix := Ix) (U := U) (Lvl := Lvl) 𝒱₀ V D c).A w = V c (Pipeline.arrRef spec1 w) := by
  dsimp only [dat]

/-- What the body leaves, window by window (the proof data's `match` reduced by `dsimp`). -/
theorem after1_0 (c : Dev nD) (t : Fin cfg1.N) : (dat (Ix := Ix) (U := U) (Lvl := Lvl) 𝒱₀ V D c).after 0 t = iblk V c 0 t := by dsimp only [dat]
theorem after1_1 (c : Dev nD) (t : Fin cfg1.N) : (dat (Ix := Ix) (U := U) (Lvl := Lvl) 𝒱₀ V D c).after 1 t = iblk V c 1 t := by dsimp only [dat]
theorem after1_2 (c : Dev nD) (t : Fin cfg1.N) : (dat (Ix := Ix) (U := U) (Lvl := Lvl) 𝒱₀ V D c).after 2 t = (outsAt1 (Ix := Ix) (U := U) (Lvl := Lvl) 𝒱₀ V c t) := by dsimp only [dat]

/-- Each input's current staging buffer holds its block at every point, fetched there or not (`beforeK_W_of`). -/
theorem before1_0 (c : Dev nD) (t : Fin cfg1.N) (d) : (dat (Ix := Ix) (U := U) (Lvl := Lvl) 𝒱₀ V D c).before 0 t d = iblk V c 0 t :=
  before1_0_of V (dat (Ix := Ix) (U := U) (Lvl := Lvl) 𝒱₀ V D c) (A_eq 𝒱₀ V D c 0) (after1_0 𝒱₀ V D c) t d
theorem before1_1 (c : Dev nD) (t : Fin cfg1.N) (d) : (dat (Ix := Ix) (U := U) (Lvl := Lvl) 𝒱₀ V D c).before 1 t d = iblk V c 1 t :=
  before1_1_of V (dat (Ix := Ix) (U := U) (Lvl := Lvl) 𝒱₀ V D c) (A_eq 𝒱₀ V D c 1) (after1_1 𝒱₀ V D c) t d

/-! ## The body obligation, at a generic point -/

/-- What the body is called with at point `t` (Lib/Pipeline.lean `BodyObligation`'s precondition, the windows one by one), -/
def bodyPre (c : Dev nD) (t : Fin cfg1.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms1_0 t) fullShare ((dat (Ix := Ix) (U := U) (Lvl := Lvl) 𝒱₀ V D c).before 0 t d))
    ∗ (∃ d, owns (c : Thread nD τ) (ms1_1 t) fullShare ((dat (Ix := Ix) (U := U) (Lvl := Lvl) 𝒱₀ V D c).before 1 t d))
    ∗ (∃ d, owns (c : Thread nD τ) (ms1_2 t) fullShare ((dat (Ix := Ix) (U := U) (Lvl := Lvl) 𝒱₀ V D c).before 2 t d)))

/-- and what it returns. -/
def bodyPost (c : Dev nD) (t : Fin cfg1.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ owns (c : Thread nD τ) (ms1_0 t) fullShare ((dat (Ix := Ix) (U := U) (Lvl := Lvl) 𝒱₀ V D c).after 0 t)
    ∗ owns (c : Thread nD τ) (ms1_1 t) fullShare ((dat (Ix := Ix) (U := U) (Lvl := Lvl) 𝒱₀ V D c).after 1 t)
    ∗ owns (c : Thread nD τ) (ms1_2 t) fullShare ((dat (Ix := Ix) (U := U) (Lvl := Lvl) 𝒱₀ V D c).after 2 t))

/-- The body at any point: the inputs' memrefs hold their blocks (`before1_W`); so the
    run applies; the invariant passes through unread; the core owes `D c` throughout. -/
theorem sound_body (c : Dev nD) (t : Fin cfg1.N) :
    bodyPre (U := U) (Lvl := Lvl) 𝒱₀ V D ι c t ⊢ wp frame (wpE (defs₀ (F := F)) 𝒱₀ c none) Set.univ (bodyAt1 t) (fun _ => bodyPost (U := U) (Lvl := Lvl) 𝒱₀ V D ι c t) := by
  unfold bodyPre bodyPost bodyAt1
  simp only [before1_0, before1_1]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl,
    after1_0, after1_1, after1_2]
  unfold outsAt1
  unfold out1_A_2
  iintro ⟨HΦ, Ho, ⟨%d0, H0⟩, ⟨%d1, H1⟩, ⟨%d2, H2⟩⟩
  iapply ((kernelRun1_A (Ix := Ix) (U := U) (Lvl := Lvl) 𝒱₀ c (grid1.coords t) _ _ _ _ _ _ (iblk V c 0 t) (iblk V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_A_2 (Ix := Ix) (U := U) (Lvl := Lvl) 𝒱₀ c _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (Ix := Ix) (U := U) (Lvl := Lvl) 𝒱₀ V D c) (defs₀ (F := F)) 𝒱₀ ι Set.univ := fun t => by
  rw [bigSep_W1, bigSep_W1, defs₀_row]
  exact triple_restated (sound_body (U := U) (Lvl := Lvl) 𝒱₀ V D ι c t) rfl .rfl fun _ => .rfl

end Cert.Kernel.Own.K1

end
-- ==== Proof.Kernel.K2.lean ====
/- The third kernel of `Kernel` (`dy_quant_dgrad`, 16 grid points): its run, the proof data and the body obligation,
   for any index type, level type, algebra, variants, entry contents `V` and owed tally `D`. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Claim

@[expose] public section

-- rectangles of production extents: membership recurses once per coordinate of the long axes
set_option maxRecDepth 16384

noncomputable section

namespace Cert.Kernel.Own.K2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec2 c` at any index and level type. -/
def ΦK (c : Dev nD) : sProp 𝕄 :=
  iprop(Pipeline.scopedRest (Ix := Ix) (Name := ℕ) (U := U) (Lvl := Lvl) (Val := Elt F) spec2 c ∗ ∃ r, prngReg c r)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Ix ℕ U Lvl cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Ix ℕ U Lvl cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Ix ℕ U Lvl cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 3, through which its contents are stated (`View.read_writes_of_cover`: the
    choice does not matter). -/
abbrev VO2_3 : View sig .tc .vmem S1x512x3072 .bf16 := (Memref.whole cc2_stg3_0 : Memref sig .tc .vmem S1x512x3072 .bf16).view
/-- One staging buffer of output window 4, through which its contents are stated (`View.read_writes_of_cover`: the
    choice does not matter). -/
abbrev VO2_4 : View sig .tc .vmem S512x8192 .fp8e5m2 := (Memref.whole cc2_stg4_0 : Memref sig .tc .vmem S512x8192 .fp8e5m2).view
/-- Each window's current staging memref at point `t`, spelled as the pipeline passes it (`bodyAt2`), and its wholeness. -/
abbrev ms2_0 (t : Fin cfg2.N) : Memref sig .tc .vmem S8x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x8192 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S3072x8192 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512x3072 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x8192 .fp8e5m2 := win2_4.stage (cfg2.slots t 4)
abbrev hs2_4 (t : Fin cfg2.N) : (ms2_4 t).IsWhole := hstage2_4 ((cfg2.slots t 4).cast nbuf2_4)

-- (the run's proof term is large: the definition's epilogue — `abstractNestedProofs` — walks it past the default budget)
set_option maxHeartbeats 2396000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .vmem S8x128 .f32) (harg1 : arg1.IsWhole) (arg2 : Memref sig .tc .vmem S512x8192 .bf16) (harg2 : arg2.IsWhole) (arg3 : Memref sig .tc .vmem S3072x8192 .fp8e4m3) (harg3 : arg3.IsWhole) (arg4 : Memref sig .tc .vmem S1x512x3072 .bf16) (harg4 : arg4.IsWhole) (arg5 : Memref sig .tc .vmem S512x8192 .fp8e5m2) (harg5 : arg5.IsWhole)
    (x0 : Vec F S8x128 .f32) (x1 : Vec F S512x8192 .bf16) (x2 : Vec F S3072x8192 .fp8e4m3) :
    Σ' (L3 : List (View.Piece (Elt F) S1x512x3072 .bf16)), { L4 : List (View.Piece (Elt F) S512x8192 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) 𝒱₀ c none) E (cc2_dy_quant_dgrad i arg1 harg1 arg2 harg2 arg3 harg3 arg4 harg4 arg5 harg5) K } := by
  refine ⟨?_, ?_, fun E K => ?run⟩
  case run =>
    simp only [cc2_dy_quant_dgrad_eq_skeleton]; unfold cc2_dy_quant_dgrad_skel
    simp only [k2_part46_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton, k2_part40_eq_skeleton, k2_part41_eq_skeleton, k2_part42_eq_skeleton, k2_part43_eq_skeleton, k2_part44_eq_skeleton, k2_part45_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-- The run's pieces for output 3 tile its block (6 stores of `S1x512x512`, checked by the kernel's evaluation: Lib/Ring.lean `Piece.tiledL`, linear in the pieces, through a loop's `@[irreducible]` trip theorem too), so they cover it. -/
theorem cover2_A_3 (c : Dev nD) (i : grid2.Coords) (arg1 : Memref sig .tc .vmem S8x128 .f32) (harg1 : arg1.IsWhole) (arg2 : Memref sig .tc .vmem S512x8192 .bf16) (harg2 : arg2.IsWhole) (arg3 : Memref sig .tc .vmem S3072x8192 .fp8e4m3) (harg3 : arg3.IsWhole) (arg4 : Memref sig .tc .vmem S1x512x3072 .bf16) (harg4 : arg4.IsWhole) (arg5 : Memref sig .tc .vmem S512x8192 .fp8e5m2) (harg5 : arg5.IsWhole)
    (x0 : Vec F S8x128 .f32) (x1 : Vec F S512x8192 .bf16) (x2 : Vec F S3072x8192 .fp8e4m3) (y : S1x512x3072.Idx) :
    ∃ pc ∈ (kernelRun2_A (Ix := Ix) (U := U) (Lvl := Lvl) 𝒱₀ c i arg1 harg1 arg2 harg2 arg3 harg3 arg4 harg4 arg5 harg5 x0 x1 x2).1, y ∈ pc.1.set :=
  View.cover_of_tiledL (kernelRun2_A (Ix := Ix) (U := U) (Lvl := Lvl) 𝒱₀ c i arg1 harg1 arg2 harg2 arg3 harg3 arg4 harg4 arg5 harg5 x0 x1 x2).1 S1x512x512.size (by sl_kernel_rfl) y

/-- What the run leaves in output 3's staging buffer: its pieces read back over junk. -/
def out2_A_3 (c : Dev nD) (i : grid2.Coords) (arg1 : Memref sig .tc .vmem S8x128 .f32) (harg1 : arg1.IsWhole) (arg2 : Memref sig .tc .vmem S512x8192 .bf16) (harg2 : arg2.IsWhole) (arg3 : Memref sig .tc .vmem S3072x8192 .fp8e4m3) (harg3 : arg3.IsWhole) (arg4 : Memref sig .tc .vmem S1x512x3072 .bf16) (harg4 : arg4.IsWhole) (arg5 : Memref sig .tc .vmem S512x8192 .fp8e5m2) (harg5 : arg5.IsWhole)
    (x0 : Vec F S8x128 .f32) (x1 : Vec F S512x8192 .bf16) (x2 : Vec F S3072x8192 .fp8e4m3) : Vec F S1x512x3072 .bf16 :=
  VO2_3.read (Elt F) (VO2_3.writes (Elt F) VO2_3.junk (kernelRun2_A (Ix := Ix) (U := U) (Lvl := Lvl) 𝒱₀ c i arg1 harg1 arg2 harg2 arg3 harg3 arg4 harg4 arg5 harg5 x0 x1 x2).1)

/-- The run's pieces for output 4 tile its block (32 stores of `S512x256`, checked by the kernel's evaluation: Lib/Ring.lean `Piece.tiledL`, linear in the pieces, through a loop's `@[irreducible]` trip theorem too), so they cover it. -/
theorem cover2_A_4 (c : Dev nD) (i : grid2.Coords) (arg1 : Memref sig .tc .vmem S8x128 .f32) (harg1 : arg1.IsWhole) (arg2 : Memref sig .tc .vmem S512x8192 .bf16) (harg2 : arg2.IsWhole) (arg3 : Memref sig .tc .vmem S3072x8192 .fp8e4m3) (harg3 : arg3.IsWhole) (arg4 : Memref sig .tc .vmem S1x512x3072 .bf16) (harg4 : arg4.IsWhole) (arg5 : Memref sig .tc .vmem S512x8192 .fp8e5m2) (harg5 : arg5.IsWhole)
    (x0 : Vec F S8x128 .f32) (x1 : Vec F S512x8192 .bf16) (x2 : Vec F S3072x8192 .fp8e4m3) (y : S512x8192.Idx) :
    ∃ pc ∈ (kernelRun2_A (Ix := Ix) (U := U) (Lvl := Lvl) 𝒱₀ c i arg1 harg1 arg2 harg2 arg3 harg3 arg4 harg4 arg5 harg5 x0 x1 x2).2.1, y ∈ pc.1.set :=
  View.cover_of_tiledL (kernelRun2_A (Ix := Ix) (U := U) (Lvl := Lvl) 𝒱₀ c i arg1 harg1 arg2 harg2 arg3 harg3 arg4 harg4 arg5 harg5 x0 x1 x2).2.1 S512x256.size (by sl_kernel_rfl) y

/-- What the run leaves in output 4's staging buffer: its pieces read back over junk. -/
def out2_A_4 (c : Dev nD) (i : grid2.Coords) (arg1 : Memref sig .tc .vmem S8x128 .f32) (harg1 : arg1.IsWhole) (arg2 : Memref sig .tc .vmem S512x8192 .bf16) (harg2 : arg2.IsWhole) (arg3 : Memref sig .tc .vmem S3072x8192 .fp8e4m3) (harg3 : arg3.IsWhole) (arg4 : Memref sig .tc .vmem S1x512x3072 .bf16) (harg4 : arg4.IsWhole) (arg5 : Memref sig .tc .vmem S512x8192 .fp8e5m2) (harg5 : arg5.IsWhole)
    (x0 : Vec F S8x128 .f32) (x1 : Vec F S512x8192 .bf16) (x2 : Vec F S3072x8192 .fp8e4m3) : Vec F S512x8192 .fp8e5m2 :=
  VO2_4.read (Elt F) (VO2_4.writes (Elt F) VO2_4.junk (kernelRun2_A (Ix := Ix) (U := U) (Lvl := Lvl) 𝒱₀ c i arg1 harg1 arg2 harg2 arg3 harg3 arg4 harg4 arg5 harg5 x0 x1 x2).2.1)

/-! ## What the outputs hold after each point -/

/-- What the outputs' staging buffers hold after the body at point `t` (as a tuple, in window order): the run's contents at
    the point's memrefs and input blocks. -/
def outsAt2 (c : Dev nD) (t : Fin cfg2.N) : Vec F S1x512x3072 .bf16 × Vec F S512x8192 .fp8e5m2 :=
  (out2_A_3 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (iblk V c 0 t) (iblk V c 1 t) (iblk V c 2 t), out2_A_4 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (iblk V c 0 t) (iblk V c 1 t) (iblk V c 2 t))

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); the core owing `D c` throughout; full shares. -/
def dat (c : Dev nD) : Dat τ (Elt F) Ix ℕ U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt2 (Ix := Ix) (U := U) (Lvl := Lvl) 𝒱₀ V c t).1
    | ⟨4, _⟩ => (outsAt2 (Ix := Ix) (U := U) (Lvl := Lvl) 𝒱₀ V c t).2
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg2.W) : (dat (Ix := Ix) (U := U) (Lvl := Lvl) 𝒱₀ V D c).A w = V c (Pipeline.arrRef spec2 w) := by
  dsimp only [dat]

/-- What the body leaves, window by window (the proof data's `match` reduced by `dsimp`). -/
theorem after2_0 (c : Dev nD) (t : Fin cfg2.N) : (dat (Ix := Ix) (U := U) (Lvl := Lvl) 𝒱₀ V D c).after 0 t = iblk V c 0 t := by dsimp only [dat]
theorem after2_1 (c : Dev nD) (t : Fin cfg2.N) : (dat (Ix := Ix) (U := U) (Lvl := Lvl) 𝒱₀ V D c).after 1 t = iblk V c 1 t := by dsimp only [dat]
theorem after2_2 (c : Dev nD) (t : Fin cfg2.N) : (dat (Ix := Ix) (U := U) (Lvl := Lvl) 𝒱₀ V D c).after 2 t = iblk V c 2 t := by dsimp only [dat]
theorem after2_3 (c : Dev nD) (t : Fin cfg2.N) : (dat (Ix := Ix) (U := U) (Lvl := Lvl) 𝒱₀ V D c).after 3 t = (outsAt2 (Ix := Ix) (U := U) (Lvl := Lvl) 𝒱₀ V c t).1 := by dsimp only [dat]
theorem after2_4 (c : Dev nD) (t : Fin cfg2.N) : (dat (Ix := Ix) (U := U) (Lvl := Lvl) 𝒱₀ V D c).after 4 t = (outsAt2 (Ix := Ix) (U := U) (Lvl := Lvl) 𝒱₀ V c t).2 := by dsimp only [dat]

/-- Each input's current staging buffer holds its block at every point, fetched there or not (`beforeK_W_of`). -/
theorem before2_0 (c : Dev nD) (t : Fin cfg2.N) (d) : (dat (Ix := Ix) (U := U) (Lvl := Lvl) 𝒱₀ V D c).before 0 t d = iblk V c 0 t :=
  before2_0_of V (dat (Ix := Ix) (U := U) (Lvl := Lvl) 𝒱₀ V D c) (A_eq 𝒱₀ V D c 0) (after2_0 𝒱₀ V D c) t d
theorem before2_1 (c : Dev nD) (t : Fin cfg2.N) (d) : (dat (Ix := Ix) (U := U) (Lvl := Lvl) 𝒱₀ V D c).before 1 t d = iblk V c 1 t :=
  before2_1_of V (dat (Ix := Ix) (U := U) (Lvl := Lvl) 𝒱₀ V D c) (A_eq 𝒱₀ V D c 1) (after2_1 𝒱₀ V D c) t d
theorem before2_2 (c : Dev nD) (t : Fin cfg2.N) (d) : (dat (Ix := Ix) (U := U) (Lvl := Lvl) 𝒱₀ V D c).before 2 t d = iblk V c 2 t :=
  before2_2_of V (dat (Ix := Ix) (U := U) (Lvl := Lvl) 𝒱₀ V D c) (A_eq 𝒱₀ V D c 2) (after2_2 𝒱₀ V D c) t d

/-! ## The body obligation, at a generic point -/

/-- What the body is called with at point `t` (Lib/Pipeline.lean `BodyObligation`'s precondition, the windows one by one), -/
def bodyPre (c : Dev nD) (t : Fin cfg2.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms2_0 t) fullShare ((dat (Ix := Ix) (U := U) (Lvl := Lvl) 𝒱₀ V D c).before 0 t d))
    ∗ (∃ d, owns (c : Thread nD τ) (ms2_1 t) fullShare ((dat (Ix := Ix) (U := U) (Lvl := Lvl) 𝒱₀ V D c).before 1 t d))
    ∗ (∃ d, owns (c : Thread nD τ) (ms2_2 t) fullShare ((dat (Ix := Ix) (U := U) (Lvl := Lvl) 𝒱₀ V D c).before 2 t d))
    ∗ (∃ d, owns (c : Thread nD τ) (ms2_3 t) fullShare ((dat (Ix := Ix) (U := U) (Lvl := Lvl) 𝒱₀ V D c).before 3 t d))
    ∗ (∃ d, owns (c : Thread nD τ) (ms2_4 t) fullShare ((dat (Ix := Ix) (U := U) (Lvl := Lvl) 𝒱₀ V D c).before 4 t d)))

/-- and what it returns. -/
def bodyPost (c : Dev nD) (t : Fin cfg2.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ owns (c : Thread nD τ) (ms2_0 t) fullShare ((dat (Ix := Ix) (U := U) (Lvl := Lvl) 𝒱₀ V D c).after 0 t)
    ∗ owns (c : Thread nD τ) (ms2_1 t) fullShare ((dat (Ix := Ix) (U := U) (Lvl := Lvl) 𝒱₀ V D c).after 1 t)
    ∗ owns (c : Thread nD τ) (ms2_2 t) fullShare ((dat (Ix := Ix) (U := U) (Lvl := Lvl) 𝒱₀ V D c).after 2 t)
    ∗ owns (c : Thread nD τ) (ms2_3 t) fullShare ((dat (Ix := Ix) (U := U) (Lvl := Lvl) 𝒱₀ V D c).after 3 t)
    ∗ owns (c : Thread nD τ) (ms2_4 t) fullShare ((dat (Ix := Ix) (U := U) (Lvl := Lvl) 𝒱₀ V D c).after 4 t))

/-- The body at any point: the inputs' memrefs hold their blocks (`before2_W`); so the
    run applies; the invariant passes through unread; the core owes `D c` throughout. -/
theorem sound_body (c : Dev nD) (t : Fin cfg2.N) :
    bodyPre (U := U) (Lvl := Lvl) 𝒱₀ V D ι c t ⊢ wp frame (wpE (defs₀ (F := F)) 𝒱₀ c none) Set.univ (bodyAt2 t) (fun _ => bodyPost (U := U) (Lvl := Lvl) 𝒱₀ V D ι c t) := by
  unfold bodyPre bodyPost bodyAt2
  simp only [before2_0, before2_1, before2_2]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl,
    after2_0, after2_1, after2_2, after2_3, after2_4]
  unfold outsAt2
  unfold out2_A_3 out2_A_4; (try dsimp only)
  iintro ⟨HΦ, Ho, ⟨%d0, H0⟩, ⟨%d1, H1⟩, ⟨%d2, H2⟩, ⟨%d3, H3⟩, ⟨%d4, H4⟩⟩
  iapply ((kernelRun2_A (Ix := Ix) (U := U) (Lvl := Lvl) 𝒱₀ c (grid2.coords t) _ _ _ _ _ _ _ _ _ _ (iblk V c 0 t) (iblk V c 1 t) (iblk V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover2_A_3 (Ix := Ix) (U := U) (Lvl := Lvl) 𝒱₀ c _ _ _ _ _ _ _ _ _ _ _ _ _ _)
  unfold owns; iexists _; isplitr
  swap; · iexact H4
  ipureintro; exact View.read_writes_of_cover _ _ _ _ _ (cover2_A_4 (Ix := Ix) (U := U) (Lvl := Lvl) 𝒱₀ c _ _ _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (Ix := Ix) (U := U) (Lvl := Lvl) 𝒱₀ V D c) (defs₀ (F := F)) 𝒱₀ ι Set.univ := fun t => by
  rw [bigSep_W2, bigSep_W2, defs₀_row]
  exact triple_restated (sound_body (U := U) (Lvl := Lvl) 𝒱₀ V D ι c t) rfl .rfl fun _ => .rfl

end Cert.Kernel.Own.K2

end
-- ==== Proof.Kernel.Regions.lean ====
module

public import proofs.«01_k».proof.Proof.Gen.Kernel.Regions
public import proofs.«01_k».proof.Proof.Kernel.K0
public import proofs.«01_k».proof.Proof.Kernel.K1
public import proofs.«01_k».proof.Proof.Kernel.K2
public import Idealize.ShloMosaic.Lib.Pipeline.RegionArrays
public import Idealize.ShloMosaic.Lib.Pipeline.Kit

/-! The three pallas_calls of `Kernel` put together: the contents of every buffer after each of them, the record of each as a
    region of @main, and the run of the whole program, which ends with every unscoped buffer at the last valuation, the
    arguments as launched and every semaphore counter at zero. -/

@[expose] public section

set_option maxRecDepth 16384

noncomputable section

namespace Cert.Kernel.Own

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What each call leaves -/

/-- The contents the amax call is entered with. -/
abbrev Ve0 (c : Dev nD) (b : Ref sig .tc) : Buf (Elt F) ((c : Thread nD τ).loc b) := V1 m c (Proc.devRef .tc b)
/-- The table of scales the amax call leaves. -/
def o1 (c : Dev nD) : Buf (Elt F) ((c : Thread nD τ).loc main_v1) := (K0.dat (Ve0 m) c).arrAt 2 cfg0.N
/-- Every buffer after the amax call. -/
abbrev W2 (c : Dev nD) : Valuation τ sig (Elt F) := Function.update (V1 m c) main_v1 (o1 m c)
/-- The contents the weight quantiser is entered with. -/
abbrev We1 (c : Dev nD) (b : Ref sig .tc) : Buf (Elt F) ((c : Thread nD τ).loc b) := W2 m c (Proc.devRef .tc b)
/-- The codes the weight quantiser leaves. -/
def o2 (c : Dev nD) : Buf (Elt F) ((c : Thread nD τ).loc main_v2) :=
  (K1.dat (Ix := Unit) (U := UR sig nD τ) (Lvl := ℕ) Variants.none (We1 m) (fun _ => 0) c).arrAt 2 cfg1.N
/-- Every buffer after the weight quantiser. -/
abbrev W3 (c : Dev nD) : Valuation τ sig (Elt F) := Function.update (W2 m c) main_v2 (o2 m c)
/-- The contents the main call is entered with. -/
abbrev We2 (c : Dev nD) (b : Ref sig .tc) : Buf (Elt F) ((c : Thread nD τ).loc b) := W3 m c (Proc.devRef .tc b)
/-- The product the main call leaves. -/
def o3 (c : Dev nD) : Buf (Elt F) ((c : Thread nD τ).loc main_v3_0) :=
  (K2.dat (Ix := Unit) (U := UR sig nD τ) (Lvl := ℕ) Variants.none (We2 m) (fun _ => 0) c).arrAt 3 cfg2.N
/-- The codes of the left operand the main call leaves. -/
def o4 (c : Dev nD) : Buf (Elt F) ((c : Thread nD τ).loc main_v3_1) :=
  (K2.dat (Ix := Unit) (U := UR sig nD τ) (Lvl := ℕ) Variants.none (We2 m) (fun _ => 0) c).arrAt 4 cfg2.N
/-- Every buffer after the main call. -/
abbrev W4 (c : Dev nD) : Valuation τ sig (Elt F) :=
  Function.update (Function.update (W3 m c) main_v3_0 (o3 m c)) main_v3_1 (o4 m c)

/-- What the calls leave in the buffers they may change, as the generated valuations ask for it. -/
def outs : Outs (F := F) := fun _ r c => W4 m c (Proc.devRef .tc r)

theorem outs_main_v1 (J : ℕ) (c : Dev nD) : outs m J main_v1 c = o1 m c := by
  simp only [outs, W4, W3, W2,
    Function.update_of_ne (StableHlo.devRef_ne_of_ne (by decide : (main_v1 : Ref sig .tc) ≠ main_v3_1)),
    Function.update_of_ne (StableHlo.devRef_ne_of_ne (by decide : (main_v1 : Ref sig .tc) ≠ main_v3_0)),
    Function.update_of_ne (StableHlo.devRef_ne_of_ne (by decide : (main_v1 : Ref sig .tc) ≠ main_v2)), Function.update_self]
theorem outs_main_v2 (J : ℕ) (c : Dev nD) : outs m J main_v2 c = o2 m c := by
  simp only [outs, W4, W3,
    Function.update_of_ne (StableHlo.devRef_ne_of_ne (by decide : (main_v2 : Ref sig .tc) ≠ main_v3_1)),
    Function.update_of_ne (StableHlo.devRef_ne_of_ne (by decide : (main_v2 : Ref sig .tc) ≠ main_v3_0)), Function.update_self]
theorem outs_main_v3_0 (J : ℕ) (c : Dev nD) : outs m J main_v3_0 c = o3 m c := by
  simp only [outs, W4,
    Function.update_of_ne (StableHlo.devRef_ne_of_ne (by decide : (main_v3_0 : Ref sig .tc) ≠ main_v3_1)), Function.update_self]
theorem outs_main_v3_1 (J : ℕ) (c : Dev nD) : outs m J main_v3_1 c = o4 m c := by
  simp only [outs, W4, Function.update_self]

/-- The generated valuations at these contents. -/
theorem V2_eq (c : Dev nD) : V2 m (outs m) c = W2 m c := by simp only [V2, outs_main_v1]
theorem V3_eq (c : Dev nD) : V3 m (outs m) c = W3 m c := by
  show Function.update (V2 m (outs m) c) _ (outs m 3 main_v2 c) = _
  rw [V2_eq, outs_main_v2]
theorem V4_eq (c : Dev nD) : V4 m (outs m) c = W4 m c := by
  show Function.update (Function.update (V3 m (outs m) c) _ (outs m 4 main_v3_0 c)) _ (outs m 4 main_v3_1 c) = _
  rw [V3_eq, outs_main_v3_0, outs_main_v3_1]

theorem V2_at_main_v1 (c : Dev nD) : W2 m c (Proc.devRef .tc main_v1) = o1 m c := by
  simp only [W2, Function.update_self]
theorem V3_at_main_v2 (c : Dev nD) : W3 m c (Proc.devRef .tc main_v2) = o2 m c := by
  simp only [W3, Function.update_self]
theorem V4_at_main_v3_0 (c : Dev nD) : W4 m c (Proc.devRef .tc main_v3_0) = o3 m c := by
  simp only [W4, Function.update_of_ne (StableHlo.devRef_ne_of_ne (by decide : (main_v3_0 : Ref sig .tc) ≠ main_v3_1)), Function.update_self]
theorem V4_at_main_v3_1 (c : Dev nD) : W4 m c (Proc.devRef .tc main_v3_1) = o4 m c := by
  simp only [W4, Function.update_self]

/-- The amax call changes the table alone. -/
theorem W2_of (c : Dev nD) (r : Ref sig .tc) (h : r ∉ ([main_v1] : List (Ref sig .tc))) : W2 m c r = V1 m c r := by
  rw [← V2_eq]; exact V2_of m _ c r h
/-- The weight quantiser changes its codes alone. -/
theorem W3_of (c : Dev nD) (r : Ref sig .tc) (h : r ∉ ([main_v2] : List (Ref sig .tc))) : W3 m c r = W2 m c r := by
  rw [← V2_eq, ← V3_eq]; exact V3_of m _ c r h
/-- The main call changes its two outputs alone. -/
theorem W4_of (c : Dev nD) (r : Ref sig .tc) (h : r ∉ ([main_v3_0, main_v3_1] : List (Ref sig .tc))) : W4 m c r = W3 m c r := by
  rw [← V3_eq, ← V4_eq]; exact V4_of m _ c r h

/-! ## The calls' arrays among the held buffers -/

/-- Each array of call 0 is in its array set. -/
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
/-- They are among the held buffers. -/
theorem arr0_S : Pipeline.arrRefs (τ := τ) spec0 ⊆ Pipeline.ucRefs τ sig :=
  Pipeline.arrRefs_sub_ucRefs spec0 (by decide)
/-- Each array of call 1 is in its array set. -/
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
/-- They are among the held buffers. -/
theorem arr1_S : Pipeline.arrRefs (τ := τ) spec1 ⊆ Pipeline.ucRefs τ sig :=
  Pipeline.arrRefs_sub_ucRefs spec1 (by decide)
/-- Each array of call 2 is in its array set. -/
theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
/-- They are among the held buffers. -/
theorem arr2_S : Pipeline.arrRefs (τ := τ) spec2 ⊆ Pipeline.ucRefs τ sig :=
  Pipeline.arrRefs_sub_ucRefs spec2 (by decide)

/-- Across the amax call every held buffer but its arrays keeps its contents. -/
theorem rest0_eq (c : Dev nD) : ∀ b ∈ (Pipeline.ucRefs τ sig) \ Pipeline.arrRefs (τ := τ) spec0, W2 m c b = V1 m c b := fun b hb => by
  have hn : b ∉ Pipeline.arrRefs (τ := τ) spec0 := (Finset.mem_sdiff.mp hb).2
  have h2 : b ≠ Proc.devRef .tc main_v1 := by rintro rfl; exact hn (arr0_mem 2)
  simp only [W2, Function.update_of_ne h2]
/-- Across the weight quantiser every held buffer but its arrays keeps its contents. -/
theorem rest1_eq (c : Dev nD) : ∀ b ∈ (Pipeline.ucRefs τ sig) \ Pipeline.arrRefs (τ := τ) spec1, W3 m c b = W2 m c b := fun b hb => by
  have hn : b ∉ Pipeline.arrRefs (τ := τ) spec1 := (Finset.mem_sdiff.mp hb).2
  have h2 : b ≠ Proc.devRef .tc main_v2 := by rintro rfl; exact hn (arr1_mem 2)
  simp only [W3, Function.update_of_ne h2]
/-- Across the main call every held buffer but its arrays keeps its contents. -/
theorem rest2_eq (c : Dev nD) : ∀ b ∈ (Pipeline.ucRefs τ sig) \ Pipeline.arrRefs (τ := τ) spec2, W4 m c b = W3 m c b := fun b hb => by
  have hn : b ∉ Pipeline.arrRefs (τ := τ) spec2 := (Finset.mem_sdiff.mp hb).2
  have h3 : b ≠ Proc.devRef .tc main_v3_0 := by rintro rfl; exact hn (arr2_mem 3)
  have h4 : b ≠ Proc.devRef .tc main_v3_1 := by rintro rfl; exact hn (arr2_mem 4)
  simp only [W4, Function.update_of_ne h3, Function.update_of_ne h4]

/-! ## The records -/

/-- The three calls' proof data. -/
def pdats : (p : Fin 3) → (c : Dev nD) → Dat τ (Elt F) Unit ℕ (UR sig nD τ) ℕ (cfgs p) c
  | ⟨0, _⟩ => fun c => K0.dat (Ve0 m) c
  | ⟨1, _⟩ => fun c => K1.dat Variants.none (We1 m) (fun _ => 0) c
  | ⟨2, _⟩ => fun c => K2.dat Variants.none (We2 m) (fun _ => 0) c

/-- The cells a core may wait at: the TensorCores', each by its one name. -/
abbrev Lc : GSem nD τ sig → Finset Unit := fun g => if g.1.2 = .tc then {()} else ∅
/-- Every wait at one level. -/
abbrev lvc : GSem nD τ sig → Unit → ℕ := fun _ _ => 0
/-- Between two items a core keeps its random-number register and owes nothing. -/
def Er (c : Dev nD) : sProp 𝕄 := iprop((∃ r, prngReg c r) ∗ (∃ W, owes (c : Thread nD τ) (0 : CellTallies nD τ sig Unit) W))

/-- Nothing is owed, so no level is crossed. -/
theorem cut (p : Fin 3) : Pipeline.LevelCut (pcfgs (F := F)) adm () Lc lvc p (fun _ => (0 : CellTallies nD τ sig Unit)) (fun _ => 0) where
  hι := fun _ _ _ => by simp [Lc]
  hιb := fun _ _ _ => le_rfl
  hD := fun _ _ _ h => absurd h (lt_irrefl _)

-- a library definition stated over the pinned configuration unifies with this one only when unification may unfold plain definitions
set_option backward.isDefEq.respectTransparency.types false in
/-- Call 0 as a region of @main: its arrays held at the contents before it and left at those after it; every other buffer rides. -/
def R0 : RegionSeg (pcfgs (F := F)) adm (pdats m) () defs₀ Variants.none Lc lvc 0 :=
  Pipeline.RegionSeg.ofHeld (pcfgs (F := F)) adm (pdats m) () defs₀ Variants.none Lc lvc 0 (fun _ => 0)
    (fun c => iprop(∃ r, prngReg c r)) (fun c => iprop(∃ r, prngReg c r))
    launch0.toP rfl
    (fun c => (K0.body_obligation (Ve0 m) c).loose) (fun _ _ => rfl) (fun _ => rfl)
    (fun c => ((pdats m) 0 c).share_full fun _ => rfl) (fun c => K0.hin (Ve0 m) c) (fun c => K0.hout (Ve0 m) c) (fun _ => 0) (cut 0)
    (fun c => StableHlo.held (c : Thread nD τ) ((Pipeline.ucRefs τ sig) \ Pipeline.arrRefs (τ := τ) spec0) (V1 m c))
    (V1 m) (W2 m) (fun _ _ => rfl)
    (fun c => fun
      | 0 => (((pdats m) 0 c).arrAt_in 0 rfl _).trans ((K0.A_eq (Ve0 m) c 0).trans (W2_of m c (Pipeline.arrRef spec0 0) (by decide)).symm)
      | 1 => (((pdats m) 0 c).arrAt_in 1 rfl _).trans ((K0.A_eq (Ve0 m) c 1).trans (W2_of m c (Pipeline.arrRef spec0 1) (by decide)).symm)
      | 2 => (V2_at_main_v1 m c).symm
      | ⟨_ + 3, h⟩ => absurd h (Nat.not_lt.2 (Nat.le_add_left _ _)))

/-- Before call 0: the held buffers split at its arrays. -/
theorem hpre0 (c : Dev nD) :
    iprop(StableHlo.held (c : Thread nD τ) (Pipeline.ucRefs τ sig) (V1 m c) ∗ Er (F := F) c) ⊢ (R0 m).pre c := by
  unfold Er
  show _ ⊢ iprop(StableHlo.held (c : Thread nD τ) (Pipeline.arrRefs (τ := τ) spec0) (V1 m c) ∗ (∃ r, prngReg c r)
    ∗ StableHlo.held (c : Thread nD τ) ((Pipeline.ucRefs τ sig) \ Pipeline.arrRefs (τ := τ) spec0) (V1 m c)
    ∗ ∃ W, owes (c : Thread nD τ) (0 : CellTallies nD τ sig Unit) W)
  rw [StableHlo.held_sub_split (c : Thread nD τ) arr0_S (V1 m c)]
  iintro ⟨⟨Ha, Hr⟩, Hp, HO⟩
  isplitl [Ha]; · iexact Ha
  isplitl [Hp]; · iexact Hp
  isplitl [Hr]; · iexact Hr
  iexact HO

/-- After call 0: its arrays rejoined with the other held buffers, which it left alone. -/
theorem hpost0 (c : Dev nD) :
    (R0 m).post c ⊢ iprop(StableHlo.held (c : Thread nD τ) (Pipeline.ucRefs τ sig) (W2 m c) ∗ Er (F := F) c) := by
  unfold Er
  show iprop(StableHlo.held (c : Thread nD τ) (Pipeline.arrRefs (τ := τ) spec0) (W2 m c) ∗ (∃ r, prngReg c r)
    ∗ StableHlo.held (c : Thread nD τ) ((Pipeline.ucRefs τ sig) \ Pipeline.arrRefs (τ := τ) spec0) (V1 m c)
    ∗ ∃ W, owes (c : Thread nD τ) (0 : CellTallies nD τ sig Unit) W) ⊢ _
  rw [StableHlo.held_sub_split (c : Thread nD τ) arr0_S (W2 m c),
    StableHlo.held_congr (c : Thread nD τ) (S := (Pipeline.ucRefs τ sig) \ Pipeline.arrRefs (τ := τ) spec0) (rest0_eq m c)]
  iintro ⟨Ha, Hp, Hr, HO⟩
  isplitl [Ha Hr]; · isplitl [Ha] <;> iassumption
  isplitl [Hp]; · iexact Hp
  iexact HO

-- a library definition stated over the pinned configuration unifies with this one only when unification may unfold plain definitions
set_option backward.isDefEq.respectTransparency.types false in
/-- Call 1 as a region of @main: its arrays held at the contents before it and left at those after it; every other buffer rides. -/
def R1 : RegionSeg (pcfgs (F := F)) adm (pdats m) () defs₀ Variants.none Lc lvc 1 :=
  Pipeline.RegionSeg.ofHeld (pcfgs (F := F)) adm (pdats m) () defs₀ Variants.none Lc lvc 1 (fun _ => 0)
    (fun c => iprop(∃ r, prngReg c r)) (fun c => iprop(∃ r, prngReg c r))
    launch1.toP rfl
    (fun c => (K1.body_obligation (U := UR sig nD τ) (Lvl := ℕ) Variants.none (We1 m) (fun _ => 0) () c).loose) (fun _ _ => rfl) (fun _ => rfl)
    (fun c => ((pdats m) 1 c).share_full fun _ => rfl) (fun _ => .rfl) (fun _ => .rfl) (fun _ => 0) (cut 1)
    (fun c => StableHlo.held (c : Thread nD τ) ((Pipeline.ucRefs τ sig) \ Pipeline.arrRefs (τ := τ) spec1) (W2 m c))
    (W2 m) (W3 m) (fun _ _ => rfl)
    (fun c => fun
      | 0 => (((pdats m) 1 c).arrAt_in 0 rfl _).trans ((K1.A_eq (Ix := Unit) (U := UR sig nD τ) (Lvl := ℕ) Variants.none (We1 m) (fun _ => 0) c 0).trans (W3_of m c (Pipeline.arrRef spec1 0) (by decide)).symm)
      | 1 => (((pdats m) 1 c).arrAt_in 1 rfl _).trans ((K1.A_eq (Ix := Unit) (U := UR sig nD τ) (Lvl := ℕ) Variants.none (We1 m) (fun _ => 0) c 1).trans (W3_of m c (Pipeline.arrRef spec1 1) (by decide)).symm)
      | 2 => (V3_at_main_v2 m c).symm
      | ⟨_ + 3, h⟩ => absurd h (Nat.not_lt.2 (Nat.le_add_left _ _)))

/-- Before call 1: the held buffers split at its arrays. -/
theorem hpre1 (c : Dev nD) :
    iprop(StableHlo.held (c : Thread nD τ) (Pipeline.ucRefs τ sig) (W2 m c) ∗ Er (F := F) c) ⊢ (R1 m).pre c := by
  unfold Er
  show _ ⊢ iprop(StableHlo.held (c : Thread nD τ) (Pipeline.arrRefs (τ := τ) spec1) (W2 m c) ∗ (∃ r, prngReg c r)
    ∗ StableHlo.held (c : Thread nD τ) ((Pipeline.ucRefs τ sig) \ Pipeline.arrRefs (τ := τ) spec1) (W2 m c)
    ∗ ∃ W, owes (c : Thread nD τ) (0 : CellTallies nD τ sig Unit) W)
  rw [StableHlo.held_sub_split (c : Thread nD τ) arr1_S (W2 m c)]
  iintro ⟨⟨Ha, Hr⟩, Hp, HO⟩
  isplitl [Ha]; · iexact Ha
  isplitl [Hp]; · iexact Hp
  isplitl [Hr]; · iexact Hr
  iexact HO

/-- After call 1: its arrays rejoined with the other held buffers, which it left alone. -/
theorem hpost1 (c : Dev nD) :
    (R1 m).post c ⊢ iprop(StableHlo.held (c : Thread nD τ) (Pipeline.ucRefs τ sig) (W3 m c) ∗ Er (F := F) c) := by
  unfold Er
  show iprop(StableHlo.held (c : Thread nD τ) (Pipeline.arrRefs (τ := τ) spec1) (W3 m c) ∗ (∃ r, prngReg c r)
    ∗ StableHlo.held (c : Thread nD τ) ((Pipeline.ucRefs τ sig) \ Pipeline.arrRefs (τ := τ) spec1) (W2 m c)
    ∗ ∃ W, owes (c : Thread nD τ) (0 : CellTallies nD τ sig Unit) W) ⊢ _
  rw [StableHlo.held_sub_split (c : Thread nD τ) arr1_S (W3 m c),
    StableHlo.held_congr (c : Thread nD τ) (S := (Pipeline.ucRefs τ sig) \ Pipeline.arrRefs (τ := τ) spec1) (rest1_eq m c)]
  iintro ⟨Ha, Hp, Hr, HO⟩
  isplitl [Ha Hr]; · isplitl [Ha] <;> iassumption
  isplitl [Hp]; · iexact Hp
  iexact HO

-- a library definition stated over the pinned configuration unifies with this one only when unification may unfold plain definitions
set_option backward.isDefEq.respectTransparency.types false in
/-- Call 2 as a region of @main: its arrays held at the contents before it and left at those after it; every other buffer rides. -/
def R2 : RegionSeg (pcfgs (F := F)) adm (pdats m) () defs₀ Variants.none Lc lvc 2 :=
  Pipeline.RegionSeg.ofHeld (pcfgs (F := F)) adm (pdats m) () defs₀ Variants.none Lc lvc 2 (fun _ => 0)
    (fun c => iprop(∃ r, prngReg c r)) (fun c => iprop(∃ r, prngReg c r))
    launch2.toP rfl
    (fun c => (K2.body_obligation (U := UR sig nD τ) (Lvl := ℕ) Variants.none (We2 m) (fun _ => 0) () c).loose) (fun _ _ => rfl) (fun _ => rfl)
    (fun c => ((pdats m) 2 c).share_full fun _ => rfl) (fun _ => .rfl) (fun _ => .rfl) (fun _ => 0) (cut 2)
    (fun c => StableHlo.held (c : Thread nD τ) ((Pipeline.ucRefs τ sig) \ Pipeline.arrRefs (τ := τ) spec2) (W3 m c))
    (W3 m) (W4 m) (fun _ _ => rfl)
    (fun c => fun
      | 0 => (((pdats m) 2 c).arrAt_in 0 rfl _).trans ((K2.A_eq (Ix := Unit) (U := UR sig nD τ) (Lvl := ℕ) Variants.none (We2 m) (fun _ => 0) c 0).trans (W4_of m c (Pipeline.arrRef spec2 0) (by decide)).symm)
      | 1 => (((pdats m) 2 c).arrAt_in 1 rfl _).trans ((K2.A_eq (Ix := Unit) (U := UR sig nD τ) (Lvl := ℕ) Variants.none (We2 m) (fun _ => 0) c 1).trans (W4_of m c (Pipeline.arrRef spec2 1) (by decide)).symm)
      | 2 => (((pdats m) 2 c).arrAt_in 2 rfl _).trans ((K2.A_eq (Ix := Unit) (U := UR sig nD τ) (Lvl := ℕ) Variants.none (We2 m) (fun _ => 0) c 2).trans (W4_of m c (Pipeline.arrRef spec2 2) (by decide)).symm)
      | 3 => (V4_at_main_v3_0 m c).symm
      | 4 => (V4_at_main_v3_1 m c).symm
      | ⟨_ + 5, h⟩ => absurd h (Nat.not_lt.2 (Nat.le_add_left _ _)))

/-- Before call 2: the held buffers split at its arrays. -/
theorem hpre2 (c : Dev nD) :
    iprop(StableHlo.held (c : Thread nD τ) (Pipeline.ucRefs τ sig) (W3 m c) ∗ Er (F := F) c) ⊢ (R2 m).pre c := by
  unfold Er
  show _ ⊢ iprop(StableHlo.held (c : Thread nD τ) (Pipeline.arrRefs (τ := τ) spec2) (W3 m c) ∗ (∃ r, prngReg c r)
    ∗ StableHlo.held (c : Thread nD τ) ((Pipeline.ucRefs τ sig) \ Pipeline.arrRefs (τ := τ) spec2) (W3 m c)
    ∗ ∃ W, owes (c : Thread nD τ) (0 : CellTallies nD τ sig Unit) W)
  rw [StableHlo.held_sub_split (c : Thread nD τ) arr2_S (W3 m c)]
  iintro ⟨⟨Ha, Hr⟩, Hp, HO⟩
  isplitl [Ha]; · iexact Ha
  isplitl [Hp]; · iexact Hp
  isplitl [Hr]; · iexact Hr
  iexact HO

/-- After call 2: its arrays rejoined with the other held buffers, which it left alone. -/
theorem hpost2 (c : Dev nD) :
    (R2 m).post c ⊢ iprop(StableHlo.held (c : Thread nD τ) (Pipeline.ucRefs τ sig) (W4 m c) ∗ Er (F := F) c) := by
  unfold Er
  show iprop(StableHlo.held (c : Thread nD τ) (Pipeline.arrRefs (τ := τ) spec2) (W4 m c) ∗ (∃ r, prngReg c r)
    ∗ StableHlo.held (c : Thread nD τ) ((Pipeline.ucRefs τ sig) \ Pipeline.arrRefs (τ := τ) spec2) (W3 m c)
    ∗ ∃ W, owes (c : Thread nD τ) (0 : CellTallies nD τ sig Unit) W) ⊢ _
  rw [StableHlo.held_sub_split (c : Thread nD τ) arr2_S (W4 m c),
    StableHlo.held_congr (c : Thread nD τ) (S := (Pipeline.ucRefs τ sig) \ Pipeline.arrRefs (τ := τ) spec2) (rest2_eq m c)]
  iintro ⟨Ha, Hp, Hr, HO⟩
  isplitl [Ha Hr]; · isplitl [Ha] <;> iassumption
  isplitl [Hp]; · iexact Hp
  iexact HO

/-! ## The run -/

/-- What a core keeps says it owes nothing. -/
theorem rest_owes (c : Dev nD) : Er (F := F) c ⊢ (iprop(∃ W, owes (c : Thread nD τ) (0 : CellTallies nD τ sig Unit) W) : sProp 𝕄) := by
  unfold Er
  iintro ⟨-, HO⟩
  iexact HO

/-- At launch every core has its register and owes nothing. -/
theorem launch_rest (ρ : Dev nD → PrngReg) :
    iprop((bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ emp)) ∗ levAts Lc lvc)
      ⊢ (|={Set.univ}=> bigSep Finset.univ (Er (F := F)) : sProp 𝕄) := by
  have h1 : ∀ c : Dev nD, (iprop(unscopedSems0 c ∗ owes (c : Thread nD τ) (0 : CellTallies nD τ sig Unit) ∅
        ∗ Pipeline.launchCred (fun _ => (0 : CellTallies nD τ sig Unit)) c ∗ prngReg c (ρ c) ∗ emp) : sProp 𝕄) ⊢ Er (F := F) c := fun c => by
    unfold Er
    iintro ⟨-, HO, -, Hp, -⟩
    isplitl [Hp]
    · iexists (ρ c); iexact Hp
    · iexists ∅; iexact HO
  have h : (bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ emp) : sProp 𝕄) ⊢ bigSep Finset.univ (Er (F := F)) :=
    bigSep_mono fun c _ => h1 c
  iintro ⟨H, -⟩
  ihave H' := h $$ H
  imodintro
  iexact H'

set_option backward.isDefEq.respectTransparency.types false in
/-- THE RUN. From any memory with zero counters every weakly fair execution of @main terminates, with every unscoped buffer
    at the last valuation and every counter at zero. -/
theorem run (ρ : Dev nD → PrngReg) :
    θ_run defs (onTc (τ := τ) (main (F := F))) ⟨m, fun _ => 0, ρ⟩ (fun r => (∀ c : Dev nD,
      ∀ b ∈ Pipeline.ucRefs τ sig, r.2.mem ((c : Thread nD τ).1, b) = V5 m (outs m) c b)
      ∧ r.2.sem = fun _ => 0) := by
  refine Pipeline.θ_run_regions_kit_dev_sems (pcfgs (F := F)) adm (pdats m) () cellOf_inj emb₁ defs₀ Variants.none Lc lvc m ρ main
    (segs m (outs m) Variants.none Lc lvc (fun _ => Er (F := F)) () (pdats m) (R0 m) (R1 m) (R2 m))
    (fun c Q => by
      rewrite [main_chain c, Seg.run_eq_chain,
        show (segs m (outs m) Variants.none Lc lvc (fun _ => Er (F := F)) () (pdats m) (R0 m) (R1 m) (R2 m) c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0)
    (fun g h => if_neg h) (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ Er (F := F) c))
    (Tₙ := fun c => StableHlo.held (c : Thread nD τ) (Pipeline.ucRefs τ sig) (V5 m (outs m) c))
    (hch := fun c => ⟨.rfl, hpre0 m c, (hpost0 m c).trans (hpre1 m c), (hpost1 m c).trans (hpre2 m c),
      (hpost2 m c).trans (by rw [← V4_eq]; exact .rfl), sep_mono .rfl (rest_owes c)⟩)
    (hinit := ?_) (QY := fun c s => ∀ b ∈ Pipeline.ucRefs τ sig, s.mem ((c : Thread nD τ).1, b) = V5 m (outs m) c b)
    (hfin := fun c s' => ?_) (hQ := fun _ h hz => ⟨h, funext fun g => hz g (.inr (regions_no_unscoped g.2))⟩)
  · rw [ownU_emb₁]
    iintro H
    imodintro
    isplitl [H]; · iexact H
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c : Thread nD τ) (0 : CellTallies nD τ sig Unit) ∅ ∗ Pipeline.launchCred (fun _ => (0 : CellTallies nD τ sig Unit)) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => (0 : CellTallies nD τ sig Unit)) c ∗ prngReg c (ρ c) ∗ emp)) : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_rest (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact h
    · iexact HSI

/-- A buffer of the TensorCore that no launch scopes is among the held ones. -/
theorem mem_uc (r : Ref sig .tc) (h : ¬ (Proc.devRef (τ := τ) .tc r).isScoped = true) : Proc.devRef .tc r ∈ Pipeline.ucRefs τ sig :=
  Finset.mem_filter.mpr ⟨StableHlo.devRef_mem_tcRefs r, h⟩

/-- The frame: each argument as launched, every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m ρ) fun r h =>
    ⟨fun c => ⟨(h.1 c _ (mem_uc main_arg0 (by decide))).trans (V5_main_arg0 m (outs m) c),
      (h.1 c _ (mem_uc main_arg1 (by decide))).trans (V5_main_arg1 m (outs m) c)⟩, h.2⟩

end Cert.Kernel.Own

end
-- ==== Proof.KernelIdeal.K0.lean ====
/- The first kernel of `KernelIdeal` (`amax_scales`, 32 grid points): its run in each of the three cases of its
   conditionals (first point, middle points, last point), what the two carried accumulators and the output hold
   after each point, the proof data and the body obligation, from any contents `V` of the buffers at the
   region's entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Claim

@[expose] public section

-- rectangles of production extents: membership recurses once per coordinate of the long axes
set_option maxRecDepth 16384

noncomputable section

namespace Cert.KernelIdeal.Own.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- At the points of case A the printed configuration (`Cfg.idle`) calls output 2 idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cfg0.idle 2 (grid0.coords t) = false := by decide +kernel

/-! ## The kernel body on any staging memrefs: a subtype the run finds -/

/-- One staging buffer of output window 2, through which its contents are stated (`View.read_writes_of_cover`: the
    choice does not matter). -/
abbrev VO0_2 : View sig .tc .vmem S8x128 .f32 := (Memref.whole cc0_stg2_0 : Memref sig .tc .vmem S8x128 .f32).view
/-- Each window's current staging memref at point `t`, spelled as the pipeline passes it (`bodyAt0`), and its wholeness. -/
abbrev ms0_0 (t : Fin cfg0.N) : Memref sig .tc .vmem S256x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S96x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S16x8192 .bf16 := Memref.whole cc0_scratch0
abbrev scM0_1 : Memref sig .tc .vmem S8x8192 .f32 := Memref.whole cc0_scratch1
/-- The scratch `arg4` the kernel carries between points, as a view: what it holds is stated through it. -/
abbrev VS0_0 : View sig .tc .vmem S16x8192 .bf16 := scM0_0.view
/-- The scratch `arg5` the kernel carries between points, as a view: what it holds is stated through it. -/
abbrev VS0_1 : View sig .tc .vmem S8x8192 .f32 := scM0_1.view

/-- The scoped buffers that this kernel neither stages nor uses as scratch (the staging buffers of the other two kernels), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The region's invariant with the two accumulators as memrefs owned at some contents, the other scoped buffers beside them. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others (F := F) c) ∗ (∃ r, prngReg c r)) := by
  unfold Pipeline.ΦA others; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
   , which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : cond0_0 i) (hc1 : ¬cond0_1 i)
    (x0 : Vec F S256x8192 .bf16) (x1 : Vec F S96x8192 .f32) :
    Σ' (L2 : List (View.Piece (Elt F) S8x128 .f32)), Σ' (LS0 : List (View.Piece (Elt F) S16x8192 .bf16)), { LS1 : List (View.Piece (Elt F) S8x8192 .f32) //
      ∀ (xi2 : Vec F S8x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_amax_scales i arg1 harg1 arg2 harg2 arg3 harg3 arg4 harg4 arg5 harg5) K } := by
  refine ⟨[], ?_, ?_, fun xi2 E K => ?run⟩
  case run =>
    simp only [cc0_amax_scales_eq_skeleton]; unfold cc0_amax_scales_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 30: 30 of 32), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
   , which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : ¬cond0_1 i)
    (x0 : Vec F S256x8192 .bf16) (x1 : Vec F S96x8192 .f32) (xs0 : Vec F S16x8192 .bf16) (xs1 : Vec F S8x8192 .f32) :
    Σ' (L2 : List (View.Piece (Elt F) S8x128 .f32)), Σ' (LS0 : List (View.Piece (Elt F) S16x8192 .bf16)), { LS1 : List (View.Piece (Elt F) S8x8192 .f32) //
      ∀ (xi2 : Vec F S8x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_amax_scales i arg1 harg1 arg2 harg2 arg3 harg3 arg4 harg4 arg5 harg5) K } := by
  refine ⟨[], ?_, ?_, fun xi2 E K => ?run⟩
  case run =>
    simp only [cc0_amax_scales_eq_skeleton]; unfold cc0_amax_scales_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hfs0; obtain rfl := harg5.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE C (`scf.if` 0 not taken, `scf.if` 1 taken: points 31), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
   , which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : cond0_1 i)
    (x0 : Vec F S256x8192 .bf16) (x1 : Vec F S96x8192 .f32) (xs0 : Vec F S16x8192 .bf16) (xs1 : Vec F S8x8192 .f32) :
    Σ' (L2 : List (View.Piece (Elt F) S8x128 .f32)), Σ' (LS0 : List (View.Piece (Elt F) S16x8192 .bf16)), { LS1 : List (View.Piece (Elt F) S8x8192 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_amax_scales i arg1 harg1 arg2 harg2 arg3 harg3 arg4 harg4 arg5 harg5) K } := by
  refine ⟨?_, ?_, ?_, fun E K => ?run⟩
  case run =>
    simp only [cc0_amax_scales_eq_skeleton]; unfold cc0_amax_scales_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1; obtain rfl := harg4.eq_unread hfs0; obtain rfl := harg5.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : cond0_0 i) (hc1 : ¬cond0_1 i)
    (x0 : Vec F S256x8192 .bf16) (x1 : Vec F S96x8192 .f32) : Vec F S8x128 .f32 :=
  VO0_2.read (Elt F) (VO0_2.writes (Elt F) VO0_2.junk (kernelRun0_A c i arg1 harg1 arg2 harg2 arg3 harg3 arg4 harg4 arg5 harg5 hc0 hc1 x0 x1).1)

/-- Case A's pieces for scratch `arg4`, which the kernel carries between points, cover it: 2 pieces of `S16x8192` tiling it (Lib/Ring.lean `Piece.tiledL`). -/
theorem scover0_A_0 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : cond0_0 i) (hc1 : ¬cond0_1 i)
    (x0 : Vec F S256x8192 .bf16) (x1 : Vec F S96x8192 .f32) (y : S16x8192.Idx) :
    ∃ pc ∈ (kernelRun0_A c i arg1 harg1 arg2 harg2 arg3 harg3 arg4 harg4 arg5 harg5 hc0 hc1 x0 x1).2.1, y ∈ pc.1.set :=
  View.cover_of_tiledL (kernelRun0_A c i arg1 harg1 arg2 harg2 arg3 harg3 arg4 harg4 arg5 harg5 hc0 hc1 x0 x1).2.1 S16x8192.size (by sl_kernel_rfl) y

/-- What case A leaves in scratch `arg4`: its pieces read back over junk. -/
def sout0_A_0 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : cond0_0 i) (hc1 : ¬cond0_1 i)
    (x0 : Vec F S256x8192 .bf16) (x1 : Vec F S96x8192 .f32) : Vec F S16x8192 .bf16 :=
  VS0_0.read (Elt F) (VS0_0.writes (Elt F) VS0_0.junk (kernelRun0_A c i arg1 harg1 arg2 harg2 arg3 harg3 arg4 harg4 arg5 harg5 hc0 hc1 x0 x1).2.1)

/-- Case A's pieces for scratch `arg5`, which the kernel carries between points, cover it: 2 pieces of `S8x8192` tiling it (Lib/Ring.lean `Piece.tiledL`). -/
theorem scover0_A_1 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : cond0_0 i) (hc1 : ¬cond0_1 i)
    (x0 : Vec F S256x8192 .bf16) (x1 : Vec F S96x8192 .f32) (y : S8x8192.Idx) :
    ∃ pc ∈ (kernelRun0_A c i arg1 harg1 arg2 harg2 arg3 harg3 arg4 harg4 arg5 harg5 hc0 hc1 x0 x1).2.2.1, y ∈ pc.1.set :=
  View.cover_of_tiledL (kernelRun0_A c i arg1 harg1 arg2 harg2 arg3 harg3 arg4 harg4 arg5 harg5 hc0 hc1 x0 x1).2.2.1 S8x8192.size (by sl_kernel_rfl) y

/-- What case A leaves in scratch `arg5`: its pieces read back over junk. -/
def sout0_A_1 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : cond0_0 i) (hc1 : ¬cond0_1 i)
    (x0 : Vec F S256x8192 .bf16) (x1 : Vec F S96x8192 .f32) : Vec F S8x8192 .f32 :=
  VS0_1.read (Elt F) (VS0_1.writes (Elt F) VS0_1.junk (kernelRun0_A c i arg1 harg1 arg2 harg2 arg3 harg3 arg4 harg4 arg5 harg5 hc0 hc1 x0 x1).2.2.1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : ¬cond0_1 i)
    (x0 : Vec F S256x8192 .bf16) (x1 : Vec F S96x8192 .f32) (xs0 : Vec F S16x8192 .bf16) (xs1 : Vec F S8x8192 .f32) : Vec F S8x128 .f32 :=
  VO0_2.read (Elt F) (VO0_2.writes (Elt F) VO0_2.junk (kernelRun0_B c i arg1 harg1 arg2 harg2 arg3 harg3 arg4 harg4 arg5 harg5 hc0 hc1 x0 x1 xs0 xs1).1)

/-- Case B's pieces for scratch `arg4`, which the kernel carries between points, cover it: 1 piece of `S16x8192` tiling it (Lib/Ring.lean `Piece.tiledL`). -/
theorem scover0_B_0 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : ¬cond0_1 i)
    (x0 : Vec F S256x8192 .bf16) (x1 : Vec F S96x8192 .f32) (xs0 : Vec F S16x8192 .bf16) (xs1 : Vec F S8x8192 .f32) (y : S16x8192.Idx) :
    ∃ pc ∈ (kernelRun0_B c i arg1 harg1 arg2 harg2 arg3 harg3 arg4 harg4 arg5 harg5 hc0 hc1 x0 x1 xs0 xs1).2.1, y ∈ pc.1.set :=
  View.cover_of_tiledL (kernelRun0_B c i arg1 harg1 arg2 harg2 arg3 harg3 arg4 harg4 arg5 harg5 hc0 hc1 x0 x1 xs0 xs1).2.1 S16x8192.size (by sl_kernel_rfl) y

/-- What case B leaves in scratch `arg4`: its pieces read back over junk. -/
def sout0_B_0 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : ¬cond0_1 i)
    (x0 : Vec F S256x8192 .bf16) (x1 : Vec F S96x8192 .f32) (xs0 : Vec F S16x8192 .bf16) (xs1 : Vec F S8x8192 .f32) : Vec F S16x8192 .bf16 :=
  VS0_0.read (Elt F) (VS0_0.writes (Elt F) VS0_0.junk (kernelRun0_B c i arg1 harg1 arg2 harg2 arg3 harg3 arg4 harg4 arg5 harg5 hc0 hc1 x0 x1 xs0 xs1).2.1)

/-- Case B's pieces for scratch `arg5`, which the kernel carries between points, cover it: 1 piece of `S8x8192` tiling it (Lib/Ring.lean `Piece.tiledL`). -/
theorem scover0_B_1 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : ¬cond0_1 i)
    (x0 : Vec F S256x8192 .bf16) (x1 : Vec F S96x8192 .f32) (xs0 : Vec F S16x8192 .bf16) (xs1 : Vec F S8x8192 .f32) (y : S8x8192.Idx) :
    ∃ pc ∈ (kernelRun0_B c i arg1 harg1 arg2 harg2 arg3 harg3 arg4 harg4 arg5 harg5 hc0 hc1 x0 x1 xs0 xs1).2.2.1, y ∈ pc.1.set :=
  View.cover_of_tiledL (kernelRun0_B c i arg1 harg1 arg2 harg2 arg3 harg3 arg4 harg4 arg5 harg5 hc0 hc1 x0 x1 xs0 xs1).2.2.1 S8x8192.size (by sl_kernel_rfl) y

/-- What case B leaves in scratch `arg5`: its pieces read back over junk. -/
def sout0_B_1 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : ¬cond0_1 i)
    (x0 : Vec F S256x8192 .bf16) (x1 : Vec F S96x8192 .f32) (xs0 : Vec F S16x8192 .bf16) (xs1 : Vec F S8x8192 .f32) : Vec F S8x8192 .f32 :=
  VS0_1.read (Elt F) (VS0_1.writes (Elt F) VS0_1.junk (kernelRun0_B c i arg1 harg1 arg2 harg2 arg3 harg3 arg4 harg4 arg5 harg5 hc0 hc1 x0 x1 xs0 xs1).2.2.1)

/-- Case C's pieces for output 2 tile its block (1 store of `S8x128`, checked by the kernel's evaluation: Lib/Ring.lean `Piece.tiledL`, linear in the pieces, through a loop's `@[irreducible]` trip theorem too), so they cover it. -/
theorem cover0_C_2 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : cond0_1 i)
    (x0 : Vec F S256x8192 .bf16) (x1 : Vec F S96x8192 .f32) (xs0 : Vec F S16x8192 .bf16) (xs1 : Vec F S8x8192 .f32) (y : S8x128.Idx) :
    ∃ pc ∈ (kernelRun0_C c i arg1 harg1 arg2 harg2 arg3 harg3 arg4 harg4 arg5 harg5 hc0 hc1 x0 x1 xs0 xs1).1, y ∈ pc.1.set :=
  View.cover_of_tiledL (kernelRun0_C c i arg1 harg1 arg2 harg2 arg3 harg3 arg4 harg4 arg5 harg5 hc0 hc1 x0 x1 xs0 xs1).1 S8x128.size (by sl_kernel_rfl) y

/-- What case C leaves in output 2's staging buffer: its pieces read back over junk. -/
def out0_C_2 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : cond0_1 i)
    (x0 : Vec F S256x8192 .bf16) (x1 : Vec F S96x8192 .f32) (xs0 : Vec F S16x8192 .bf16) (xs1 : Vec F S8x8192 .f32) : Vec F S8x128 .f32 :=
  VO0_2.read (Elt F) (VO0_2.writes (Elt F) VO0_2.junk (kernelRun0_C c i arg1 harg1 arg2 harg2 arg3 harg3 arg4 harg4 arg5 harg5 hc0 hc1 x0 x1 xs0 xs1).1)

/-- Case C's pieces for scratch `arg4`, which the kernel carries between points, cover it: 1 piece of `S16x8192` tiling it (Lib/Ring.lean `Piece.tiledL`). -/
theorem scover0_C_0 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : cond0_1 i)
    (x0 : Vec F S256x8192 .bf16) (x1 : Vec F S96x8192 .f32) (xs0 : Vec F S16x8192 .bf16) (xs1 : Vec F S8x8192 .f32) (y : S16x8192.Idx) :
    ∃ pc ∈ (kernelRun0_C c i arg1 harg1 arg2 harg2 arg3 harg3 arg4 harg4 arg5 harg5 hc0 hc1 x0 x1 xs0 xs1).2.1, y ∈ pc.1.set :=
  View.cover_of_tiledL (kernelRun0_C c i arg1 harg1 arg2 harg2 arg3 harg3 arg4 harg4 arg5 harg5 hc0 hc1 x0 x1 xs0 xs1).2.1 S16x8192.size (by sl_kernel_rfl) y

/-- What case C leaves in scratch `arg4`: its pieces read back over junk. -/
def sout0_C_0 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : cond0_1 i)
    (x0 : Vec F S256x8192 .bf16) (x1 : Vec F S96x8192 .f32) (xs0 : Vec F S16x8192 .bf16) (xs1 : Vec F S8x8192 .f32) : Vec F S16x8192 .bf16 :=
  VS0_0.read (Elt F) (VS0_0.writes (Elt F) VS0_0.junk (kernelRun0_C c i arg1 harg1 arg2 harg2 arg3 harg3 arg4 harg4 arg5 harg5 hc0 hc1 x0 x1 xs0 xs1).2.1)

/-- Case C's pieces for scratch `arg5`, which the kernel carries between points, cover it: 1 piece of `S8x8192` tiling it (Lib/Ring.lean `Piece.tiledL`). -/
theorem scover0_C_1 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : cond0_1 i)
    (x0 : Vec F S256x8192 .bf16) (x1 : Vec F S96x8192 .f32) (xs0 : Vec F S16x8192 .bf16) (xs1 : Vec F S8x8192 .f32) (y : S8x8192.Idx) :
    ∃ pc ∈ (kernelRun0_C c i arg1 harg1 arg2 harg2 arg3 harg3 arg4 harg4 arg5 harg5 hc0 hc1 x0 x1 xs0 xs1).2.2.1, y ∈ pc.1.set :=
  View.cover_of_tiledL (kernelRun0_C c i arg1 harg1 arg2 harg2 arg3 harg3 arg4 harg4 arg5 harg5 hc0 hc1 x0 x1 xs0 xs1).2.2.1 S8x8192.size (by sl_kernel_rfl) y

/-- What case C leaves in scratch `arg5`: its pieces read back over junk. -/
def sout0_C_1 (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole) (arg4 : Memref sig .tc .vmem S16x8192 .bf16) (harg4 : arg4.IsWhole) (arg5 : Memref sig .tc .vmem S8x8192 .f32) (harg5 : arg5.IsWhole) (hc0 : ¬cond0_0 i) (hc1 : cond0_1 i)
    (x0 : Vec F S256x8192 .bf16) (x1 : Vec F S96x8192 .f32) (xs0 : Vec F S16x8192 .bf16) (xs1 : Vec F S8x8192 .f32) : Vec F S8x8192 .f32 :=
  VS0_1.read (Elt F) (VS0_1.writes (Elt F) VS0_1.junk (kernelRun0_C c i arg1 harg1 arg2 harg2 arg3 harg3 arg4 harg4 arg5 harg5 hc0 hc1 x0 x1 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x128 .f32 × Vec F S16x8192 .bf16 × Vec F S8x8192 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩))
  | n + 1, hn =>
    if h0 : (n + 1) % 32 = 0 then
      if h1 : (n + 1) % 32 = 31 then
        False.elim (by have hN : n + 1 < 32 := lt_of_lt_of_eq hn (show cfg0.N = 32 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩))
    else
      if h1 : (n + 1) % 32 = 31 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2.1 (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 32 = 0) (h1 : ¬t.val % 32 = 31) :
    outsAt0 V c t.val t.isLt = (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 V c t.val t.isLt = (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 V c t.val t.isLt = (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ others (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ others (F := F) c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ others (F := F) c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = (outsAt0 V c t.val t.isLt).1 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [Dat.leavesExact_idle (dat V c) 2 t (idleAt0_2_A t ((hcond0_0 t).mpr h0) (fun h => h1 ((hcond0_1 t).mp h))) (noFlush0_2_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0 sout0_A_1; (try dsimp only)
        iintro ⟨⟨⟨HS0, HS1, HR⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk V c 0 t) (iblk V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _)
            iexact HR
          iexact Hg
        isplitl [Ho]; · iexact Ho
        isplitl [H0]; · iexact H0
        isplitl [H1]; · iexact H1
        iexists _; iexact H2
      · exfalso; have hN : t.val < 32 := lt_of_lt_of_eq t.isLt (show cfg0.N = 32 from N_0); omega
  · by_cases h1 : t.val % 32 = 31
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2_C t (fun h => h0 ((hcond0_0 t).mp h)) ((hcond0_1 t).mpr h1)], after0_2]
      by_cases hz : t.val = 0
      · exfalso; have hN : t.val < 32 := lt_of_lt_of_eq t.isLt (show cfg0.N = 32 from N_0); omega
      · rw [PhiS_castSucc V c t, PhiS_pos V c _ _ hz]
        rw [outsAt0_C V c t h0 h1]
        unfold out0_C_2 sout0_C_0 sout0_C_1; (try dsimp only)
        iintro ⟨⟨⟨HS0, HS1, HR⟩, Hg⟩, Ho, ⟨%d0, H0⟩, ⟨%d1, H1⟩, ⟨%d2, H2⟩⟩
        iapply ((kernelRun0_C c (grid0.coords t) _ _ _ _ _ _ _ _ _ _ (fun h => h0 ((hcond0_0 t).mp h)) ((hcond0_1 t).mpr h1) (iblk V c 0 t) (iblk V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _)
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [Dat.leavesExact_idle (dat V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc V c t, PhiS_pos V c _ _ hz]
        rw [outsAt0_B V c t h0 h1]
        unfold sout0_B_0 sout0_B_1; (try dsimp only)
        iintro ⟨⟨⟨HS0, HS1, HR⟩, Hg⟩, Ho, ⟨%d0, H0⟩, ⟨%d1, H1⟩, ⟨%d2, H2⟩⟩
        iapply ((kernelRun0_B c (grid0.coords t) _ _ _ _ _ _ _ _ _ _ (fun h => h0 ((hcond0_0 t).mp h)) (fun h => h1 ((hcond0_1 t).mp h)) (iblk V c 0 t) (iblk V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _)
            iexact HR
          iexact Hg
        isplitl [Ho]; · iexact Ho
        isplitl [H0]; · iexact H0
        isplitl [H1]; · iexact H1
        iexists _; iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]
    · iexists _; iexact HS0
    isplitl [HS1]
    · iexists _; iexact HS1
    iexact HR
  iexact Hg

/-- The same after the last point. -/
theorem hout (c : Dev nD) : (dat V c).Φ (Fin.last cfg0.N) ⊢ Pipeline.ΦA spec0 c :=
  Phi_out V c _ (by rw [Fin.val_last]; have : cfg0.N = 32 := N_0; omega)

end Cert.KernelIdeal.Own.K0

end
-- ==== Proof.KernelIdeal.K1.lean ====
/- The second kernel of `KernelIdeal` (`w_quant`, 12 grid points): its run, the proof data and the body obligation,
   for any index type, level type, algebra, variants, entry contents `V` and owed tally `D`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Claim

@[expose] public section

-- rectangles of production extents: membership recurses once per coordinate of the long axes
set_option maxRecDepth 16384

noncomputable section

namespace Cert.KernelIdeal.Own.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec1 c` at any index and level type. -/
def ΦK (c : Dev nD) : sProp 𝕄 :=
  iprop(Pipeline.scopedRest (Ix := Ix) (Name := ℕ) (U := U) (Lvl := Lvl) (Val := Elt F) spec1 c ∗ ∃ r, prngReg c r)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Ix ℕ U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Ix ℕ U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO1_2 : View sig .tc .vmem S256x8192 .fp8e4m3 := (Memref.whole cc1_stg2_0 : Memref sig .tc .vmem S256x8192 .fp8e4m3).view
/-- Each window's current staging memref at point `t`, spelled as the pipeline passes it (`bodyAt1`), and its wholeness. -/
abbrev ms1_0 (t : Fin cfg1.N) : Memref sig .tc .vmem S8x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x8192 .fp8e4m3 := win1_2.stage (cfg1.slots t 2)
abbrev hs1_2 (t : Fin cfg1.N) : (ms1_2 t).IsWhole := hstage1_2 ((cfg1.slots t 2).cast nbuf1_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S8x128 .f32) (harg1 : arg1.IsWhole) (arg2 : Memref sig .tc .vmem S256x8192 .f32) (harg2 : arg2.IsWhole) (arg3 : Memref sig .tc .vmem S256x8192 .fp8e4m3) (harg3 : arg3.IsWhole)
    (x0 : Vec F S8x128 .f32) (x1 : Vec F S256x8192 .f32) :
    { L2 : List (View.Piece (Elt F) S256x8192 .fp8e4m3) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) 𝒱₀ c none) E (cc1_w_quant i arg1 harg1 arg2 harg2 arg3 harg3) K } := by
  refine ⟨?_, fun E K => ?run⟩
  case run =>
    simp only [cc1_w_quant_eq_skeleton]; unfold cc1_w_quant_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces for output 2 tile its block (1 store of `S256x8192`, checked by the kernel's evaluation: Lib/Ring.lean `Piece.tiledL`, linear in the pieces, through a loop's `@[irreducible]` trip theorem too), so they cover it. -/
theorem cover1_A_2 (c : Dev nD) (i : grid1.Coords) (arg1 : Memref sig .tc .vmem S8x128 .f32) (harg1 : arg1.IsWhole) (arg2 : Memref sig .tc .vmem S256x8192 .f32) (harg2 : arg2.IsWhole) (arg3 : Memref sig .tc .vmem S256x8192 .fp8e4m3) (harg3 : arg3.IsWhole)
    (x0 : Vec F S8x128 .f32) (x1 : Vec F S256x8192 .f32) (y : S256x8192.Idx) :
    ∃ pc ∈ (kernelRun1_A (Ix := Ix) (U := U) (Lvl := Lvl) 𝒱₀ c i arg1 harg1 arg2 harg2 arg3 harg3 x0 x1).1, y ∈ pc.1.set :=
  View.cover_of_tiledL (kernelRun1_A (Ix := Ix) (U := U) (Lvl := Lvl) 𝒱₀ c i arg1 harg1 arg2 harg2 arg3 harg3 x0 x1).1 S256x8192.size (by sl_kernel_rfl) y

/-- What the run leaves in output 2's staging buffer: its pieces read back over junk. -/
def out1_A_2 (c : Dev nD) (i : grid1.Coords) (arg1 : Memref sig .tc .vmem S8x128 .f32) (harg1 : arg1.IsWhole) (arg2 : Memref sig .tc .vmem S256x8192 .f32) (harg2 : arg2.IsWhole) (arg3 : Memref sig .tc .vmem S256x8192 .fp8e4m3) (harg3 : arg3.IsWhole)
    (x0 : Vec F S8x128 .f32) (x1 : Vec F S256x8192 .f32) : Vec F S256x8192 .fp8e4m3 :=
  VO1_2.read (Elt F) (VO1_2.writes (Elt F) VO1_2.junk (kernelRun1_A (Ix := Ix) (U := U) (Lvl := Lvl) 𝒱₀ c i arg1 harg1 arg2 harg2 arg3 harg3 x0 x1).1)

/-! ## What the outputs hold after each point -/

/-- What the outputs' staging buffers hold after the body at point `t`: the run's contents at
    the point's memrefs and input blocks. -/
def outsAt1 (c : Dev nD) (t : Fin cfg1.N) : Vec F S256x8192 .fp8e4m3 :=
  out1_A_2 (Ix := Ix) (U := U) (Lvl := Lvl) 𝒱₀ c (grid1.coords t) (ms1_0 t) (hs1_0 t) (ms1_1 t) (hs1_1 t) (ms1_2 t) (hs1_2 t) (iblk V c 0 t) (iblk V c 1 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); the core owing `D c` throughout; full shares. -/
def dat (c : Dev nD) : Dat τ (Elt F) Ix ℕ U Lvl cfg1 c where
  A w := V c (Pipeline.arrRef spec1 w)
  after w t := match w with
    | ⟨0, _⟩ => iblk V c 0 t
    | ⟨1, _⟩ => iblk V c 1 t
    | ⟨2, _⟩ => (outsAt1 (Ix := Ix) (U := U) (Lvl := Lvl) 𝒱₀ V c t)
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg1.W) : (dat (Ix := Ix) (U := U) (Lvl := Lvl) 𝒱₀ V D c).A w = V c (Pipeline.arrRef spec1 w) := by
  dsimp only [dat]

/-- What the body leaves, window by window (the proof data's `match` reduced by `dsimp`). -/
theorem after1_0 (c : Dev nD) (t : Fin cfg1.N) : (dat (Ix := Ix) (U := U) (Lvl := Lvl) 𝒱₀ V D c).after 0 t = iblk V c 0 t := by dsimp only [dat]
theorem after1_1 (c : Dev nD) (t : Fin cfg1.N) : (dat (Ix := Ix) (U := U) (Lvl := Lvl) 𝒱₀ V D c).after 1 t = iblk V c 1 t := by dsimp only [dat]
theorem after1_2 (c : Dev nD) (t : Fin cfg1.N) : (dat (Ix := Ix) (U := U) (Lvl := Lvl) 𝒱₀ V D c).after 2 t = (outsAt1 (Ix := Ix) (U := U) (Lvl := Lvl) 𝒱₀ V c t) := by dsimp only [dat]

/-- Each input's current staging buffer holds its block at every point, fetched there or not (`beforeK_W_of`). -/
theorem before1_0 (c : Dev nD) (t : Fin cfg1.N) (d) : (dat (Ix := Ix) (U := U) (Lvl := Lvl) 𝒱₀ V D c).before 0 t d = iblk V c 0 t :=
  before1_0_of V (dat (Ix := Ix) (U := U) (Lvl := Lvl) 𝒱₀ V D c) (A_eq 𝒱₀ V D c 0) (after1_0 𝒱₀ V D c) t d
theorem before1_1 (c : Dev nD) (t : Fin cfg1.N) (d) : (dat (Ix := Ix) (U := U) (Lvl := Lvl) 𝒱₀ V D c).before 1 t d = iblk V c 1 t :=
  before1_1_of V (dat (Ix := Ix) (U := U) (Lvl := Lvl) 𝒱₀ V D c) (A_eq 𝒱₀ V D c 1) (after1_1 𝒱₀ V D c) t d

/-! ## The body obligation, at a generic point -/

/-- What the body is called with at point `t` (Lib/Pipeline.lean `BodyObligation`'s precondition, the windows one by one), -/
def bodyPre (c : Dev nD) (t : Fin cfg1.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms1_0 t) fullShare ((dat (Ix := Ix) (U := U) (Lvl := Lvl) 𝒱₀ V D c).before 0 t d))
    ∗ (∃ d, owns (c : Thread nD τ) (ms1_1 t) fullShare ((dat (Ix := Ix) (U := U) (Lvl := Lvl) 𝒱₀ V D c).before 1 t d))
    ∗ (∃ d, owns (c : Thread nD τ) (ms1_2 t) fullShare ((dat (Ix := Ix) (U := U) (Lvl := Lvl) 𝒱₀ V D c).before 2 t d)))

/-- and what it returns. -/
def bodyPost (c : Dev nD) (t : Fin cfg1.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ owns (c : Thread nD τ) (ms1_0 t) fullShare ((dat (Ix := Ix) (U := U) (Lvl := Lvl) 𝒱₀ V D c).after 0 t)
    ∗ owns (c : Thread nD τ) (ms1_1 t) fullShare ((dat (Ix := Ix) (U := U) (Lvl := Lvl) 𝒱₀ V D c).after 1 t)
    ∗ owns (c : Thread nD τ) (ms1_2 t) fullShare ((dat (Ix := Ix) (U := U) (Lvl := Lvl) 𝒱₀ V D c).after 2 t))

/-- The body at any point: the inputs' memrefs hold their blocks (`before1_W`); so the
    run applies; the invariant passes through unread; the core owes `D c` throughout. -/
theorem sound_body (c : Dev nD) (t : Fin cfg1.N) :
    bodyPre (U := U) (Lvl := Lvl) 𝒱₀ V D ι c t ⊢ wp frame (wpE (defs₀ (F := F)) 𝒱₀ c none) Set.univ (bodyAt1 t) (fun _ => bodyPost (U := U) (Lvl := Lvl) 𝒱₀ V D ι c t) := by
  unfold bodyPre bodyPost bodyAt1
  simp only [before1_0, before1_1]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl,
    after1_0, after1_1, after1_2]
  unfold outsAt1
  unfold out1_A_2
  iintro ⟨HΦ, Ho, ⟨%d0, H0⟩, ⟨%d1, H1⟩, ⟨%d2, H2⟩⟩
  iapply ((kernelRun1_A (Ix := Ix) (U := U) (Lvl := Lvl) 𝒱₀ c (grid1.coords t) _ _ _ _ _ _ (iblk V c 0 t) (iblk V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_A_2 (Ix := Ix) (U := U) (Lvl := Lvl) 𝒱₀ c _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (Ix := Ix) (U := U) (Lvl := Lvl) 𝒱₀ V D c) (defs₀ (F := F)) 𝒱₀ ι Set.univ := fun t => by
  rw [bigSep_W1, bigSep_W1, defs₀_row]
  exact triple_restated (sound_body (U := U) (Lvl := Lvl) 𝒱₀ V D ι c t) rfl .rfl fun _ => .rfl

end Cert.KernelIdeal.Own.K1

end
-- ==== Proof.KernelIdeal.K2.lean ====
/- The third kernel of `KernelIdeal` (`dy_quant_dgrad`, 16 grid points): its run, the proof data and the body obligation,
   for any index type, level type, algebra, variants, entry contents `V` and owed tally `D`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Claim

@[expose] public section

-- rectangles of production extents: membership recurses once per coordinate of the long axes
set_option maxRecDepth 16384

noncomputable section

namespace Cert.KernelIdeal.Own.K2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec2 c` at any index and level type. -/
def ΦK (c : Dev nD) : sProp 𝕄 :=
  iprop(Pipeline.scopedRest (Ix := Ix) (Name := ℕ) (U := U) (Lvl := Lvl) (Val := Elt F) spec2 c ∗ ∃ r, prngReg c r)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Ix ℕ U Lvl cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Ix ℕ U Lvl cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Ix ℕ U Lvl cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 3, through which its contents are stated (`View.read_writes_of_cover`: the
    choice does not matter). -/
abbrev VO2_3 : View sig .tc .vmem S1x512x3072 .bf16 := (Memref.whole cc2_stg3_0 : Memref sig .tc .vmem S1x512x3072 .bf16).view
/-- One staging buffer of output window 4, through which its contents are stated (`View.read_writes_of_cover`: the
    choice does not matter). -/
abbrev VO2_4 : View sig .tc .vmem S512x8192 .fp8e5m2 := (Memref.whole cc2_stg4_0 : Memref sig .tc .vmem S512x8192 .fp8e5m2).view
/-- Each window's current staging memref at point `t`, spelled as the pipeline passes it (`bodyAt2`), and its wholeness. -/
abbrev ms2_0 (t : Fin cfg2.N) : Memref sig .tc .vmem S8x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x8192 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S3072x8192 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512x3072 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x8192 .fp8e5m2 := win2_4.stage (cfg2.slots t 4)
abbrev hs2_4 (t : Fin cfg2.N) : (ms2_4 t).IsWhole := hstage2_4 ((cfg2.slots t 4).cast nbuf2_4)

-- (the run's proof term is large: the definition's epilogue — `abstractNestedProofs` — walks it past the default budget)
set_option maxHeartbeats 2396000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .vmem S8x128 .f32) (harg1 : arg1.IsWhole) (arg2 : Memref sig .tc .vmem S512x8192 .bf16) (harg2 : arg2.IsWhole) (arg3 : Memref sig .tc .vmem S3072x8192 .fp8e4m3) (harg3 : arg3.IsWhole) (arg4 : Memref sig .tc .vmem S1x512x3072 .bf16) (harg4 : arg4.IsWhole) (arg5 : Memref sig .tc .vmem S512x8192 .fp8e5m2) (harg5 : arg5.IsWhole)
    (x0 : Vec F S8x128 .f32) (x1 : Vec F S512x8192 .bf16) (x2 : Vec F S3072x8192 .fp8e4m3) :
    Σ' (L3 : List (View.Piece (Elt F) S1x512x3072 .bf16)), { L4 : List (View.Piece (Elt F) S512x8192 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) 𝒱₀ c none) E (cc2_dy_quant_dgrad i arg1 harg1 arg2 harg2 arg3 harg3 arg4 harg4 arg5 harg5) K } := by
  refine ⟨?_, ?_, fun E K => ?run⟩
  case run =>
    simp only [cc2_dy_quant_dgrad_eq_skeleton]; unfold cc2_dy_quant_dgrad_skel
    simp only [k2_part46_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton, k2_part40_eq_skeleton, k2_part41_eq_skeleton, k2_part42_eq_skeleton, k2_part43_eq_skeleton, k2_part44_eq_skeleton, k2_part45_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-- The run's pieces for output 3 tile its block (6 stores of `S1x512x512`, checked by the kernel's evaluation: Lib/Ring.lean `Piece.tiledL`, linear in the pieces, through a loop's `@[irreducible]` trip theorem too), so they cover it. -/
theorem cover2_A_3 (c : Dev nD) (i : grid2.Coords) (arg1 : Memref sig .tc .vmem S8x128 .f32) (harg1 : arg1.IsWhole) (arg2 : Memref sig .tc .vmem S512x8192 .bf16) (harg2 : arg2.IsWhole) (arg3 : Memref sig .tc .vmem S3072x8192 .fp8e4m3) (harg3 : arg3.IsWhole) (arg4 : Memref sig .tc .vmem S1x512x3072 .bf16) (harg4 : arg4.IsWhole) (arg5 : Memref sig .tc .vmem S512x8192 .fp8e5m2) (harg5 : arg5.IsWhole)
    (x0 : Vec F S8x128 .f32) (x1 : Vec F S512x8192 .bf16) (x2 : Vec F S3072x8192 .fp8e4m3) (y : S1x512x3072.Idx) :
    ∃ pc ∈ (kernelRun2_A (Ix := Ix) (U := U) (Lvl := Lvl) 𝒱₀ c i arg1 harg1 arg2 harg2 arg3 harg3 arg4 harg4 arg5 harg5 x0 x1 x2).1, y ∈ pc.1.set :=
  View.cover_of_tiledL (kernelRun2_A (Ix := Ix) (U := U) (Lvl := Lvl) 𝒱₀ c i arg1 harg1 arg2 harg2 arg3 harg3 arg4 harg4 arg5 harg5 x0 x1 x2).1 S1x512x512.size (by sl_kernel_rfl) y

/-- What the run leaves in output 3's staging buffer: its pieces read back over junk. -/
def out2_A_3 (c : Dev nD) (i : grid2.Coords) (arg1 : Memref sig .tc .vmem S8x128 .f32) (harg1 : arg1.IsWhole) (arg2 : Memref sig .tc .vmem S512x8192 .bf16) (harg2 : arg2.IsWhole) (arg3 : Memref sig .tc .vmem S3072x8192 .fp8e4m3) (harg3 : arg3.IsWhole) (arg4 : Memref sig .tc .vmem S1x512x3072 .bf16) (harg4 : arg4.IsWhole) (arg5 : Memref sig .tc .vmem S512x8192 .fp8e5m2) (harg5 : arg5.IsWhole)
    (x0 : Vec F S8x128 .f32) (x1 : Vec F S512x8192 .bf16) (x2 : Vec F S3072x8192 .fp8e4m3) : Vec F S1x512x3072 .bf16 :=
  VO2_3.read (Elt F) (VO2_3.writes (Elt F) VO2_3.junk (kernelRun2_A (Ix := Ix) (U := U) (Lvl := Lvl) 𝒱₀ c i arg1 harg1 arg2 harg2 arg3 harg3 arg4 harg4 arg5 harg5 x0 x1 x2).1)

/-- The run's pieces for output 4 tile its block (32 stores of `S512x256`, checked by the kernel's evaluation: Lib/Ring.lean `Piece.tiledL`, linear in the pieces, through a loop's `@[irreducible]` trip theorem too), so they cover it. -/
theorem cover2_A_4 (c : Dev nD) (i : grid2.Coords) (arg1 : Memref sig .tc .vmem S8x128 .f32) (harg1 : arg1.IsWhole) (arg2 : Memref sig .tc .vmem S512x8192 .bf16) (harg2 : arg2.IsWhole) (arg3 : Memref sig .tc .vmem S3072x8192 .fp8e4m3) (harg3 : arg3.IsWhole) (arg4 : Memref sig .tc .vmem S1x512x3072 .bf16) (harg4 : arg4.IsWhole) (arg5 : Memref sig .tc .vmem S512x8192 .fp8e5m2) (harg5 : arg5.IsWhole)
    (x0 : Vec F S8x128 .f32) (x1 : Vec F S512x8192 .bf16) (x2 : Vec F S3072x8192 .fp8e4m3) (y : S512x8192.Idx) :
    ∃ pc ∈ (kernelRun2_A (Ix := Ix) (U := U) (Lvl := Lvl) 𝒱₀ c i arg1 harg1 arg2 harg2 arg3 harg3 arg4 harg4 arg5 harg5 x0 x1 x2).2.1, y ∈ pc.1.set :=
  View.cover_of_tiledL (kernelRun2_A (Ix := Ix) (U := U) (Lvl := Lvl) 𝒱₀ c i arg1 harg1 arg2 harg2 arg3 harg3 arg4 harg4 arg5 harg5 x0 x1 x2).2.1 S512x256.size (by sl_kernel_rfl) y

/-- What the run leaves in output 4's staging buffer: its pieces read back over junk. -/
def out2_A_4 (c : Dev nD) (i : grid2.Coords) (arg1 : Memref sig .tc .vmem S8x128 .f32) (harg1 : arg1.IsWhole) (arg2 : Memref sig .tc .vmem S512x8192 .bf16) (harg2 : arg2.IsWhole) (arg3 : Memref sig .tc .vmem S3072x8192 .fp8e4m3) (harg3 : arg3.IsWhole) (arg4 : Memref sig .tc .vmem S1x512x3072 .bf16) (harg4 : arg4.IsWhole) (arg5 : Memref sig .tc .vmem S512x8192 .fp8e5m2) (harg5 : arg5.IsWhole)
    (x0 : Vec F S8x128 .f32) (x1 : Vec F S512x8192 .bf16) (x2 : Vec F S3072x8192 .fp8e4m3) : Vec F S512x8192 .fp8e5m2 :=
  VO2_4.read (Elt F) (VO2_4.writes (Elt F) VO2_4.junk (kernelRun2_A (Ix := Ix) (U := U) (Lvl := Lvl) 𝒱₀ c i arg1 harg1 arg2 harg2 arg3 harg3 arg4 harg4 arg5 harg5 x0 x1 x2).2.1)

/-! ## What the outputs hold after each point -/

/-- What the outputs' staging buffers hold after the body at point `t` (as a tuple, in window order): the run's contents at
    the point's memrefs and input blocks. -/
def outsAt2 (c : Dev nD) (t : Fin cfg2.N) : Vec F S1x512x3072 .bf16 × Vec F S512x8192 .fp8e5m2 :=
  (out2_A_3 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (iblk V c 0 t) (iblk V c 1 t) (iblk V c 2 t), out2_A_4 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (iblk V c 0 t) (iblk V c 1 t) (iblk V c 2 t))

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); the core owing `D c` throughout; full shares. -/
def dat (c : Dev nD) : Dat τ (Elt F) Ix ℕ U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt2 (Ix := Ix) (U := U) (Lvl := Lvl) 𝒱₀ V c t).1
    | ⟨4, _⟩ => (outsAt2 (Ix := Ix) (U := U) (Lvl := Lvl) 𝒱₀ V c t).2
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg2.W) : (dat (Ix := Ix) (U := U) (Lvl := Lvl) 𝒱₀ V D c).A w = V c (Pipeline.arrRef spec2 w) := by
  dsimp only [dat]

/-- What the body leaves, window by window (the proof data's `match` reduced by `dsimp`). -/
theorem after2_0 (c : Dev nD) (t : Fin cfg2.N) : (dat (Ix := Ix) (U := U) (Lvl := Lvl) 𝒱₀ V D c).after 0 t = iblk V c 0 t := by dsimp only [dat]
theorem after2_1 (c : Dev nD) (t : Fin cfg2.N) : (dat (Ix := Ix) (U := U) (Lvl := Lvl) 𝒱₀ V D c).after 1 t = iblk V c 1 t := by dsimp only [dat]
theorem after2_2 (c : Dev nD) (t : Fin cfg2.N) : (dat (Ix := Ix) (U := U) (Lvl := Lvl) 𝒱₀ V D c).after 2 t = iblk V c 2 t := by dsimp only [dat]
theorem after2_3 (c : Dev nD) (t : Fin cfg2.N) : (dat (Ix := Ix) (U := U) (Lvl := Lvl) 𝒱₀ V D c).after 3 t = (outsAt2 (Ix := Ix) (U := U) (Lvl := Lvl) 𝒱₀ V c t).1 := by dsimp only [dat]
theorem after2_4 (c : Dev nD) (t : Fin cfg2.N) : (dat (Ix := Ix) (U := U) (Lvl := Lvl) 𝒱₀ V D c).after 4 t = (outsAt2 (Ix := Ix) (U := U) (Lvl := Lvl) 𝒱₀ V c t).2 := by dsimp only [dat]

/-- Each input's current staging buffer holds its block at every point, fetched there or not (`beforeK_W_of`). -/
theorem before2_0 (c : Dev nD) (t : Fin cfg2.N) (d) : (dat (Ix := Ix) (U := U) (Lvl := Lvl) 𝒱₀ V D c).before 0 t d = iblk V c 0 t :=
  before2_0_of V (dat (Ix := Ix) (U := U) (Lvl := Lvl) 𝒱₀ V D c) (A_eq 𝒱₀ V D c 0) (after2_0 𝒱₀ V D c) t d
theorem before2_1 (c : Dev nD) (t : Fin cfg2.N) (d) : (dat (Ix := Ix) (U := U) (Lvl := Lvl) 𝒱₀ V D c).before 1 t d = iblk V c 1 t :=
  before2_1_of V (dat (Ix := Ix) (U := U) (Lvl := Lvl) 𝒱₀ V D c) (A_eq 𝒱₀ V D c 1) (after2_1 𝒱₀ V D c) t d
theorem before2_2 (c : Dev nD) (t : Fin cfg2.N) (d) : (dat (Ix := Ix) (U := U) (Lvl := Lvl) 𝒱₀ V D c).before 2 t d = iblk V c 2 t :=
  before2_2_of V (dat (Ix := Ix) (U := U) (Lvl := Lvl) 𝒱₀ V D c) (A_eq 𝒱₀ V D c 2) (after2_2 𝒱₀ V D c) t d

/-! ## The body obligation, at a generic point -/

/-- What the body is called with at point `t` (Lib/Pipeline.lean `BodyObligation`'s precondition, the windows one by one), -/
def bodyPre (c : Dev nD) (t : Fin cfg2.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms2_0 t) fullShare ((dat (Ix := Ix) (U := U) (Lvl := Lvl) 𝒱₀ V D c).before 0 t d))
    ∗ (∃ d, owns (c : Thread nD τ) (ms2_1 t) fullShare ((dat (Ix := Ix) (U := U) (Lvl := Lvl) 𝒱₀ V D c).before 1 t d))
    ∗ (∃ d, owns (c : Thread nD τ) (ms2_2 t) fullShare ((dat (Ix := Ix) (U := U) (Lvl := Lvl) 𝒱₀ V D c).before 2 t d))
    ∗ (∃ d, owns (c : Thread nD τ) (ms2_3 t) fullShare ((dat (Ix := Ix) (U := U) (Lvl := Lvl) 𝒱₀ V D c).before 3 t d))
    ∗ (∃ d, owns (c : Thread nD τ) (ms2_4 t) fullShare ((dat (Ix := Ix) (U := U) (Lvl := Lvl) 𝒱₀ V D c).before 4 t d)))

/-- and what it returns. -/
def bodyPost (c : Dev nD) (t : Fin cfg2.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ owns (c : Thread nD τ) (ms2_0 t) fullShare ((dat (Ix := Ix) (U := U) (Lvl := Lvl) 𝒱₀ V D c).after 0 t)
    ∗ owns (c : Thread nD τ) (ms2_1 t) fullShare ((dat (Ix := Ix) (U := U) (Lvl := Lvl) 𝒱₀ V D c).after 1 t)
    ∗ owns (c : Thread nD τ) (ms2_2 t) fullShare ((dat (Ix := Ix) (U := U) (Lvl := Lvl) 𝒱₀ V D c).after 2 t)
    ∗ owns (c : Thread nD τ) (ms2_3 t) fullShare ((dat (Ix := Ix) (U := U) (Lvl := Lvl) 𝒱₀ V D c).after 3 t)
    ∗ owns (c : Thread nD τ) (ms2_4 t) fullShare ((dat (Ix := Ix) (U := U) (Lvl := Lvl) 𝒱₀ V D c).after 4 t))

/-- The body at any point: the inputs' memrefs hold their blocks (`before2_W`); so the
    run applies; the invariant passes through unread; the core owes `D c` throughout. -/
theorem sound_body (c : Dev nD) (t : Fin cfg2.N) :
    bodyPre (U := U) (Lvl := Lvl) 𝒱₀ V D ι c t ⊢ wp frame (wpE (defs₀ (F := F)) 𝒱₀ c none) Set.univ (bodyAt2 t) (fun _ => bodyPost (U := U) (Lvl := Lvl) 𝒱₀ V D ι c t) := by
  unfold bodyPre bodyPost bodyAt2
  simp only [before2_0, before2_1, before2_2]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl,
    after2_0, after2_1, after2_2, after2_3, after2_4]
  unfold outsAt2
  unfold out2_A_3 out2_A_4; (try dsimp only)
  iintro ⟨HΦ, Ho, ⟨%d0, H0⟩, ⟨%d1, H1⟩, ⟨%d2, H2⟩, ⟨%d3, H3⟩, ⟨%d4, H4⟩⟩
  iapply ((kernelRun2_A (Ix := Ix) (U := U) (Lvl := Lvl) 𝒱₀ c (grid2.coords t) _ _ _ _ _ _ _ _ _ _ (iblk V c 0 t) (iblk V c 1 t) (iblk V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover2_A_3 (Ix := Ix) (U := U) (Lvl := Lvl) 𝒱₀ c _ _ _ _ _ _ _ _ _ _ _ _ _ _)
  unfold owns; iexists _; isplitr
  swap; · iexact H4
  ipureintro; exact View.read_writes_of_cover _ _ _ _ _ (cover2_A_4 (Ix := Ix) (U := U) (Lvl := Lvl) 𝒱₀ c _ _ _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (Ix := Ix) (U := U) (Lvl := Lvl) 𝒱₀ V D c) (defs₀ (F := F)) 𝒱₀ ι Set.univ := fun t => by
  rw [bigSep_W2, bigSep_W2, defs₀_row]
  exact triple_restated (sound_body (U := U) (Lvl := Lvl) 𝒱₀ V D ι c t) rfl .rfl fun _ => .rfl

end Cert.KernelIdeal.Own.K2

end
-- ==== Proof.KernelIdeal.Regions.lean ====
module

public import proofs.«01_k».proof.Proof.Gen.KernelIdeal.Regions
public import proofs.«01_k».proof.Proof.KernelIdeal.K0
public import proofs.«01_k».proof.Proof.KernelIdeal.K1
public import proofs.«01_k».proof.Proof.KernelIdeal.K2
public import Idealize.ShloMosaic.Lib.Pipeline.RegionArrays
public import Idealize.ShloMosaic.Lib.Pipeline.Kit

/-! The three pallas_calls of `KernelIdeal` put together: the contents of every buffer after each of them, the record of each as a
    region of @main, and the run of the whole program, which ends with every unscoped buffer at the last valuation, the
    arguments as launched and every semaphore counter at zero. -/

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## What each call leaves -/

/-- The contents the amax call is entered with. -/
abbrev Ve0 (c : Dev nD) (b : Ref sig .tc) : Buf (Elt F) ((c : Thread nD τ).loc b) := V1 m c (Proc.devRef .tc b)
/-- The table of scales the amax call leaves. -/
def o1 (c : Dev nD) : Buf (Elt F) ((c : Thread nD τ).loc main_v1) := (K0.dat (Ve0 m) c).arrAt 2 cfg0.N
/-- Every buffer after the amax call. -/
abbrev W2 (c : Dev nD) : Valuation τ sig (Elt F) := Function.update (V1 m c) main_v1 (o1 m c)
/-- The contents the weight quantiser is entered with. -/
abbrev We1 (c : Dev nD) (b : Ref sig .tc) : Buf (Elt F) ((c : Thread nD τ).loc b) := W2 m c (Proc.devRef .tc b)
/-- The codes the weight quantiser leaves. -/
def o2 (c : Dev nD) : Buf (Elt F) ((c : Thread nD τ).loc main_v2) :=
  (K1.dat (Ix := Unit) (U := UR sig nD τ) (Lvl := ℕ) Variants.none (We1 m) (fun _ => 0) c).arrAt 2 cfg1.N
/-- Every buffer after the weight quantiser. -/
abbrev W3 (c : Dev nD) : Valuation τ sig (Elt F) := Function.update (W2 m c) main_v2 (o2 m c)
/-- The contents the main call is entered with. -/
abbrev We2 (c : Dev nD) (b : Ref sig .tc) : Buf (Elt F) ((c : Thread nD τ).loc b) := W3 m c (Proc.devRef .tc b)
/-- The product the main call leaves. -/
def o3 (c : Dev nD) : Buf (Elt F) ((c : Thread nD τ).loc main_v3_0) :=
  (K2.dat (Ix := Unit) (U := UR sig nD τ) (Lvl := ℕ) Variants.none (We2 m) (fun _ => 0) c).arrAt 3 cfg2.N
/-- The codes of the left operand the main call leaves. -/
def o4 (c : Dev nD) : Buf (Elt F) ((c : Thread nD τ).loc main_v3_1) :=
  (K2.dat (Ix := Unit) (U := UR sig nD τ) (Lvl := ℕ) Variants.none (We2 m) (fun _ => 0) c).arrAt 4 cfg2.N
/-- Every buffer after the main call. -/
abbrev W4 (c : Dev nD) : Valuation τ sig (Elt F) :=
  Function.update (Function.update (W3 m c) main_v3_0 (o3 m c)) main_v3_1 (o4 m c)

/-- What the calls leave in the buffers they may change, as the generated valuations ask for it. -/
def outs : Outs (F := F) := fun _ r c => W4 m c (Proc.devRef .tc r)

theorem outs_main_v1 (J : ℕ) (c : Dev nD) : outs m J main_v1 c = o1 m c := by
  simp only [outs, W4, W3, W2,
    Function.update_of_ne (StableHlo.devRef_ne_of_ne (by decide : (main_v1 : Ref sig .tc) ≠ main_v3_1)),
    Function.update_of_ne (StableHlo.devRef_ne_of_ne (by decide : (main_v1 : Ref sig .tc) ≠ main_v3_0)),
    Function.update_of_ne (StableHlo.devRef_ne_of_ne (by decide : (main_v1 : Ref sig .tc) ≠ main_v2)), Function.update_self]
theorem outs_main_v2 (J : ℕ) (c : Dev nD) : outs m J main_v2 c = o2 m c := by
  simp only [outs, W4, W3,
    Function.update_of_ne (StableHlo.devRef_ne_of_ne (by decide : (main_v2 : Ref sig .tc) ≠ main_v3_1)),
    Function.update_of_ne (StableHlo.devRef_ne_of_ne (by decide : (main_v2 : Ref sig .tc) ≠ main_v3_0)), Function.update_self]
theorem outs_main_v3_0 (J : ℕ) (c : Dev nD) : outs m J main_v3_0 c = o3 m c := by
  simp only [outs, W4,
    Function.update_of_ne (StableHlo.devRef_ne_of_ne (by decide : (main_v3_0 : Ref sig .tc) ≠ main_v3_1)), Function.update_self]
theorem outs_main_v3_1 (J : ℕ) (c : Dev nD) : outs m J main_v3_1 c = o4 m c := by
  simp only [outs, W4, Function.update_self]

/-- The generated valuations at these contents. -/
theorem V2_eq (c : Dev nD) : V2 m (outs m) c = W2 m c := by simp only [V2, outs_main_v1]
theorem V3_eq (c : Dev nD) : V3 m (outs m) c = W3 m c := by
  show Function.update (V2 m (outs m) c) _ (outs m 3 main_v2 c) = _
  rw [V2_eq, outs_main_v2]
theorem V4_eq (c : Dev nD) : V4 m (outs m) c = W4 m c := by
  show Function.update (Function.update (V3 m (outs m) c) _ (outs m 4 main_v3_0 c)) _ (outs m 4 main_v3_1 c) = _
  rw [V3_eq, outs_main_v3_0, outs_main_v3_1]

theorem V2_at_main_v1 (c : Dev nD) : W2 m c (Proc.devRef .tc main_v1) = o1 m c := by
  simp only [W2, Function.update_self]
theorem V3_at_main_v2 (c : Dev nD) : W3 m c (Proc.devRef .tc main_v2) = o2 m c := by
  simp only [W3, Function.update_self]
theorem V4_at_main_v3_0 (c : Dev nD) : W4 m c (Proc.devRef .tc main_v3_0) = o3 m c := by
  simp only [W4, Function.update_of_ne (StableHlo.devRef_ne_of_ne (by decide : (main_v3_0 : Ref sig .tc) ≠ main_v3_1)), Function.update_self]
theorem V4_at_main_v3_1 (c : Dev nD) : W4 m c (Proc.devRef .tc main_v3_1) = o4 m c := by
  simp only [W4, Function.update_self]

/-- The amax call changes the table alone. -/
theorem W2_of (c : Dev nD) (r : Ref sig .tc) (h : r ∉ ([main_v1] : List (Ref sig .tc))) : W2 m c r = V1 m c r := by
  rw [← V2_eq]; exact V2_of m _ c r h
/-- The weight quantiser changes its codes alone. -/
theorem W3_of (c : Dev nD) (r : Ref sig .tc) (h : r ∉ ([main_v2] : List (Ref sig .tc))) : W3 m c r = W2 m c r := by
  rw [← V2_eq, ← V3_eq]; exact V3_of m _ c r h
/-- The main call changes its two outputs alone. -/
theorem W4_of (c : Dev nD) (r : Ref sig .tc) (h : r ∉ ([main_v3_0, main_v3_1] : List (Ref sig .tc))) : W4 m c r = W3 m c r := by
  rw [← V3_eq, ← V4_eq]; exact V4_of m _ c r h

/-! ## The calls' arrays among the held buffers -/

/-- Each array of call 0 is in its array set. -/
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
/-- They are among the held buffers. -/
theorem arr0_S : Pipeline.arrRefs (τ := τ) spec0 ⊆ Pipeline.ucRefs τ sig :=
  Pipeline.arrRefs_sub_ucRefs spec0 (by decide)
/-- Each array of call 1 is in its array set. -/
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
/-- They are among the held buffers. -/
theorem arr1_S : Pipeline.arrRefs (τ := τ) spec1 ⊆ Pipeline.ucRefs τ sig :=
  Pipeline.arrRefs_sub_ucRefs spec1 (by decide)
/-- Each array of call 2 is in its array set. -/
theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
/-- They are among the held buffers. -/
theorem arr2_S : Pipeline.arrRefs (τ := τ) spec2 ⊆ Pipeline.ucRefs τ sig :=
  Pipeline.arrRefs_sub_ucRefs spec2 (by decide)

/-- Across the amax call every held buffer but its arrays keeps its contents. -/
theorem rest0_eq (c : Dev nD) : ∀ b ∈ (Pipeline.ucRefs τ sig) \ Pipeline.arrRefs (τ := τ) spec0, W2 m c b = V1 m c b := fun b hb => by
  have hn : b ∉ Pipeline.arrRefs (τ := τ) spec0 := (Finset.mem_sdiff.mp hb).2
  have h2 : b ≠ Proc.devRef .tc main_v1 := by rintro rfl; exact hn (arr0_mem 2)
  simp only [W2, Function.update_of_ne h2]
/-- Across the weight quantiser every held buffer but its arrays keeps its contents. -/
theorem rest1_eq (c : Dev nD) : ∀ b ∈ (Pipeline.ucRefs τ sig) \ Pipeline.arrRefs (τ := τ) spec1, W3 m c b = W2 m c b := fun b hb => by
  have hn : b ∉ Pipeline.arrRefs (τ := τ) spec1 := (Finset.mem_sdiff.mp hb).2
  have h2 : b ≠ Proc.devRef .tc main_v2 := by rintro rfl; exact hn (arr1_mem 2)
  simp only [W3, Function.update_of_ne h2]
/-- Across the main call every held buffer but its arrays keeps its contents. -/
theorem rest2_eq (c : Dev nD) : ∀ b ∈ (Pipeline.ucRefs τ sig) \ Pipeline.arrRefs (τ := τ) spec2, W4 m c b = W3 m c b := fun b hb => by
  have hn : b ∉ Pipeline.arrRefs (τ := τ) spec2 := (Finset.mem_sdiff.mp hb).2
  have h3 : b ≠ Proc.devRef .tc main_v3_0 := by rintro rfl; exact hn (arr2_mem 3)
  have h4 : b ≠ Proc.devRef .tc main_v3_1 := by rintro rfl; exact hn (arr2_mem 4)
  simp only [W4, Function.update_of_ne h3, Function.update_of_ne h4]

/-! ## The records -/

/-- The three calls' proof data. -/
def pdats : (p : Fin 3) → (c : Dev nD) → Dat τ (Elt F) Unit ℕ (UR sig nD τ) ℕ (cfgs p) c
  | ⟨0, _⟩ => fun c => K0.dat (Ve0 m) c
  | ⟨1, _⟩ => fun c => K1.dat Variants.none (We1 m) (fun _ => 0) c
  | ⟨2, _⟩ => fun c => K2.dat Variants.none (We2 m) (fun _ => 0) c

/-- The cells a core may wait at: the TensorCores', each by its one name. -/
abbrev Lc : GSem nD τ sig → Finset Unit := fun g => if g.1.2 = .tc then {()} else ∅
/-- Every wait at one level. -/
abbrev lvc : GSem nD τ sig → Unit → ℕ := fun _ _ => 0
/-- Between two items a core keeps its random-number register and owes nothing. -/
def Er (c : Dev nD) : sProp 𝕄 := iprop((∃ r, prngReg c r) ∗ (∃ W, owes (c : Thread nD τ) (0 : CellTallies nD τ sig Unit) W))

/-- Nothing is owed, so no level is crossed. -/
theorem cut (p : Fin 3) : Pipeline.LevelCut (pcfgs (F := F)) adm () Lc lvc p (fun _ => (0 : CellTallies nD τ sig Unit)) (fun _ => 0) where
  hι := fun _ _ _ => by simp [Lc]
  hιb := fun _ _ _ => le_rfl
  hD := fun _ _ _ h => absurd h (lt_irrefl _)

-- a library definition stated over the pinned configuration unifies with this one only when unification may unfold plain definitions
set_option backward.isDefEq.respectTransparency.types false in
/-- Call 0 as a region of @main: its arrays held at the contents before it and left at those after it; every other buffer rides. -/
def R0 : RegionSeg (pcfgs (F := F)) adm (pdats m) () defs₀ Variants.none Lc lvc 0 :=
  Pipeline.RegionSeg.ofHeld (pcfgs (F := F)) adm (pdats m) () defs₀ Variants.none Lc lvc 0 (fun _ => 0)
    (fun c => iprop(∃ r, prngReg c r)) (fun c => iprop(∃ r, prngReg c r))
    launch0.toP rfl
    (fun c => (K0.body_obligation (Ve0 m) c).loose) (fun _ _ => rfl) (fun _ => rfl)
    (fun c => ((pdats m) 0 c).share_full fun _ => rfl) (fun c => K0.hin (Ve0 m) c) (fun c => K0.hout (Ve0 m) c) (fun _ => 0) (cut 0)
    (fun c => StableHlo.held (c : Thread nD τ) ((Pipeline.ucRefs τ sig) \ Pipeline.arrRefs (τ := τ) spec0) (V1 m c))
    (V1 m) (W2 m) (fun _ _ => rfl)
    (fun c => fun
      | 0 => (((pdats m) 0 c).arrAt_in 0 rfl _).trans ((K0.A_eq (Ve0 m) c 0).trans (W2_of m c (Pipeline.arrRef spec0 0) (by decide)).symm)
      | 1 => (((pdats m) 0 c).arrAt_in 1 rfl _).trans ((K0.A_eq (Ve0 m) c 1).trans (W2_of m c (Pipeline.arrRef spec0 1) (by decide)).symm)
      | 2 => (V2_at_main_v1 m c).symm
      | ⟨_ + 3, h⟩ => absurd h (Nat.not_lt.2 (Nat.le_add_left _ _)))

/-- Before call 0: the held buffers split at its arrays. -/
theorem hpre0 (c : Dev nD) :
    iprop(StableHlo.held (c : Thread nD τ) (Pipeline.ucRefs τ sig) (V1 m c) ∗ Er (F := F) c) ⊢ (R0 m).pre c := by
  unfold Er
  show _ ⊢ iprop(StableHlo.held (c : Thread nD τ) (Pipeline.arrRefs (τ := τ) spec0) (V1 m c) ∗ (∃ r, prngReg c r)
    ∗ StableHlo.held (c : Thread nD τ) ((Pipeline.ucRefs τ sig) \ Pipeline.arrRefs (τ := τ) spec0) (V1 m c)
    ∗ ∃ W, owes (c : Thread nD τ) (0 : CellTallies nD τ sig Unit) W)
  rw [StableHlo.held_sub_split (c : Thread nD τ) arr0_S (V1 m c)]
  iintro ⟨⟨Ha, Hr⟩, Hp, HO⟩
  isplitl [Ha]; · iexact Ha
  isplitl [Hp]; · iexact Hp
  isplitl [Hr]; · iexact Hr
  iexact HO

/-- After call 0: its arrays rejoined with the other held buffers, which it left alone. -/
theorem hpost0 (c : Dev nD) :
    (R0 m).post c ⊢ iprop(StableHlo.held (c : Thread nD τ) (Pipeline.ucRefs τ sig) (W2 m c) ∗ Er (F := F) c) := by
  unfold Er
  show iprop(StableHlo.held (c : Thread nD τ) (Pipeline.arrRefs (τ := τ) spec0) (W2 m c) ∗ (∃ r, prngReg c r)
    ∗ StableHlo.held (c : Thread nD τ) ((Pipeline.ucRefs τ sig) \ Pipeline.arrRefs (τ := τ) spec0) (V1 m c)
    ∗ ∃ W, owes (c : Thread nD τ) (0 : CellTallies nD τ sig Unit) W) ⊢ _
  rw [StableHlo.held_sub_split (c : Thread nD τ) arr0_S (W2 m c),
    StableHlo.held_congr (c : Thread nD τ) (S := (Pipeline.ucRefs τ sig) \ Pipeline.arrRefs (τ := τ) spec0) (rest0_eq m c)]
  iintro ⟨Ha, Hp, Hr, HO⟩
  isplitl [Ha Hr]; · isplitl [Ha] <;> iassumption
  isplitl [Hp]; · iexact Hp
  iexact HO

-- a library definition stated over the pinned configuration unifies with this one only when unification may unfold plain definitions
set_option backward.isDefEq.respectTransparency.types false in
/-- Call 1 as a region of @main: its arrays held at the contents before it and left at those after it; every other buffer rides. -/
def R1 : RegionSeg (pcfgs (F := F)) adm (pdats m) () defs₀ Variants.none Lc lvc 1 :=
  Pipeline.RegionSeg.ofHeld (pcfgs (F := F)) adm (pdats m) () defs₀ Variants.none Lc lvc 1 (fun _ => 0)
    (fun c => iprop(∃ r, prngReg c r)) (fun c => iprop(∃ r, prngReg c r))
    launch1.toP rfl
    (fun c => (K1.body_obligation (U := UR sig nD τ) (Lvl := ℕ) Variants.none (We1 m) (fun _ => 0) () c).loose) (fun _ _ => rfl) (fun _ => rfl)
    (fun c => ((pdats m) 1 c).share_full fun _ => rfl) (fun _ => .rfl) (fun _ => .rfl) (fun _ => 0) (cut 1)
    (fun c => StableHlo.held (c : Thread nD τ) ((Pipeline.ucRefs τ sig) \ Pipeline.arrRefs (τ := τ) spec1) (W2 m c))
    (W2 m) (W3 m) (fun _ _ => rfl)
    (fun c => fun
      | 0 => (((pdats m) 1 c).arrAt_in 0 rfl _).trans ((K1.A_eq (Ix := Unit) (U := UR sig nD τ) (Lvl := ℕ) Variants.none (We1 m) (fun _ => 0) c 0).trans (W3_of m c (Pipeline.arrRef spec1 0) (by decide)).symm)
      | 1 => (((pdats m) 1 c).arrAt_in 1 rfl _).trans ((K1.A_eq (Ix := Unit) (U := UR sig nD τ) (Lvl := ℕ) Variants.none (We1 m) (fun _ => 0) c 1).trans (W3_of m c (Pipeline.arrRef spec1 1) (by decide)).symm)
      | 2 => (V3_at_main_v2 m c).symm
      | ⟨_ + 3, h⟩ => absurd h (Nat.not_lt.2 (Nat.le_add_left _ _)))

/-- Before call 1: the held buffers split at its arrays. -/
theorem hpre1 (c : Dev nD) :
    iprop(StableHlo.held (c : Thread nD τ) (Pipeline.ucRefs τ sig) (W2 m c) ∗ Er (F := F) c) ⊢ (R1 m).pre c := by
  unfold Er
  show _ ⊢ iprop(StableHlo.held (c : Thread nD τ) (Pipeline.arrRefs (τ := τ) spec1) (W2 m c) ∗ (∃ r, prngReg c r)
    ∗ StableHlo.held (c : Thread nD τ) ((Pipeline.ucRefs τ sig) \ Pipeline.arrRefs (τ := τ) spec1) (W2 m c)
    ∗ ∃ W, owes (c : Thread nD τ) (0 : CellTallies nD τ sig Unit) W)
  rw [StableHlo.held_sub_split (c : Thread nD τ) arr1_S (W2 m c)]
  iintro ⟨⟨Ha, Hr⟩, Hp, HO⟩
  isplitl [Ha]; · iexact Ha
  isplitl [Hp]; · iexact Hp
  isplitl [Hr]; · iexact Hr
  iexact HO

/-- After call 1: its arrays rejoined with the other held buffers, which it left alone. -/
theorem hpost1 (c : Dev nD) :
    (R1 m).post c ⊢ iprop(StableHlo.held (c : Thread nD τ) (Pipeline.ucRefs τ sig) (W3 m c) ∗ Er (F := F) c) := by
  unfold Er
  show iprop(StableHlo.held (c : Thread nD τ) (Pipeline.arrRefs (τ := τ) spec1) (W3 m c) ∗ (∃ r, prngReg c r)
    ∗ StableHlo.held (c : Thread nD τ) ((Pipeline.ucRefs τ sig) \ Pipeline.arrRefs (τ := τ) spec1) (W2 m c)
    ∗ ∃ W, owes (c : Thread nD τ) (0 : CellTallies nD τ sig Unit) W) ⊢ _
  rw [StableHlo.held_sub_split (c : Thread nD τ) arr1_S (W3 m c),
    StableHlo.held_congr (c : Thread nD τ) (S := (Pipeline.ucRefs τ sig) \ Pipeline.arrRefs (τ := τ) spec1) (rest1_eq m c)]
  iintro ⟨Ha, Hp, Hr, HO⟩
  isplitl [Ha Hr]; · isplitl [Ha] <;> iassumption
  isplitl [Hp]; · iexact Hp
  iexact HO

-- a library definition stated over the pinned configuration unifies with this one only when unification may unfold plain definitions
set_option backward.isDefEq.respectTransparency.types false in
/-- Call 2 as a region of @main: its arrays held at the contents before it and left at those after it; every other buffer rides. -/
def R2 : RegionSeg (pcfgs (F := F)) adm (pdats m) () defs₀ Variants.none Lc lvc 2 :=
  Pipeline.RegionSeg.ofHeld (pcfgs (F := F)) adm (pdats m) () defs₀ Variants.none Lc lvc 2 (fun _ => 0)
    (fun c => iprop(∃ r, prngReg c r)) (fun c => iprop(∃ r, prngReg c r))
    launch2.toP rfl
    (fun c => (K2.body_obligation (U := UR sig nD τ) (Lvl := ℕ) Variants.none (We2 m) (fun _ => 0) () c).loose) (fun _ _ => rfl) (fun _ => rfl)
    (fun c => ((pdats m) 2 c).share_full fun _ => rfl) (fun _ => .rfl) (fun _ => .rfl) (fun _ => 0) (cut 2)
    (fun c => StableHlo.held (c : Thread nD τ) ((Pipeline.ucRefs τ sig) \ Pipeline.arrRefs (τ := τ) spec2) (W3 m c))
    (W3 m) (W4 m) (fun _ _ => rfl)
    (fun c => fun
      | 0 => (((pdats m) 2 c).arrAt_in 0 rfl _).trans ((K2.A_eq (Ix := Unit) (U := UR sig nD τ) (Lvl := ℕ) Variants.none (We2 m) (fun _ => 0) c 0).trans (W4_of m c (Pipeline.arrRef spec2 0) (by decide)).symm)
      | 1 => (((pdats m) 2 c).arrAt_in 1 rfl _).trans ((K2.A_eq (Ix := Unit) (U := UR sig nD τ) (Lvl := ℕ) Variants.none (We2 m) (fun _ => 0) c 1).trans (W4_of m c (Pipeline.arrRef spec2 1) (by decide)).symm)
      | 2 => (((pdats m) 2 c).arrAt_in 2 rfl _).trans ((K2.A_eq (Ix := Unit) (U := UR sig nD τ) (Lvl := ℕ) Variants.none (We2 m) (fun _ => 0) c 2).trans (W4_of m c (Pipeline.arrRef spec2 2) (by decide)).symm)
      | 3 => (V4_at_main_v3_0 m c).symm
      | 4 => (V4_at_main_v3_1 m c).symm
      | ⟨_ + 5, h⟩ => absurd h (Nat.not_lt.2 (Nat.le_add_left _ _)))

/-- Before call 2: the held buffers split at its arrays. -/
theorem hpre2 (c : Dev nD) :
    iprop(StableHlo.held (c : Thread nD τ) (Pipeline.ucRefs τ sig) (W3 m c) ∗ Er (F := F) c) ⊢ (R2 m).pre c := by
  unfold Er
  show _ ⊢ iprop(StableHlo.held (c : Thread nD τ) (Pipeline.arrRefs (τ := τ) spec2) (W3 m c) ∗ (∃ r, prngReg c r)
    ∗ StableHlo.held (c : Thread nD τ) ((Pipeline.ucRefs τ sig) \ Pipeline.arrRefs (τ := τ) spec2) (W3 m c)
    ∗ ∃ W, owes (c : Thread nD τ) (0 : CellTallies nD τ sig Unit) W)
  rw [StableHlo.held_sub_split (c : Thread nD τ) arr2_S (W3 m c)]
  iintro ⟨⟨Ha, Hr⟩, Hp, HO⟩
  isplitl [Ha]; · iexact Ha
  isplitl [Hp]; · iexact Hp
  isplitl [Hr]; · iexact Hr
  iexact HO

/-- After call 2: its arrays rejoined with the other held buffers, which it left alone. -/
theorem hpost2 (c : Dev nD) :
    (R2 m).post c ⊢ iprop(StableHlo.held (c : Thread nD τ) (Pipeline.ucRefs τ sig) (W4 m c) ∗ Er (F := F) c) := by
  unfold Er
  show iprop(StableHlo.held (c : Thread nD τ) (Pipeline.arrRefs (τ := τ) spec2) (W4 m c) ∗ (∃ r, prngReg c r)
    ∗ StableHlo.held (c : Thread nD τ) ((Pipeline.ucRefs τ sig) \ Pipeline.arrRefs (τ := τ) spec2) (W3 m c)
    ∗ ∃ W, owes (c : Thread nD τ) (0 : CellTallies nD τ sig Unit) W) ⊢ _
  rw [StableHlo.held_sub_split (c : Thread nD τ) arr2_S (W4 m c),
    StableHlo.held_congr (c : Thread nD τ) (S := (Pipeline.ucRefs τ sig) \ Pipeline.arrRefs (τ := τ) spec2) (rest2_eq m c)]
  iintro ⟨Ha, Hp, Hr, HO⟩
  isplitl [Ha Hr]; · isplitl [Ha] <;> iassumption
  isplitl [Hp]; · iexact Hp
  iexact HO

/-! ## The run -/

/-- What a core keeps says it owes nothing. -/
theorem rest_owes (c : Dev nD) : Er (F := F) c ⊢ (iprop(∃ W, owes (c : Thread nD τ) (0 : CellTallies nD τ sig Unit) W) : sProp 𝕄) := by
  unfold Er
  iintro ⟨-, HO⟩
  iexact HO

/-- At launch every core has its register and owes nothing. -/
theorem launch_rest (ρ : Dev nD → PrngReg) :
    iprop((bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ emp)) ∗ levAts Lc lvc)
      ⊢ (|={Set.univ}=> bigSep Finset.univ (Er (F := F)) : sProp 𝕄) := by
  have h1 : ∀ c : Dev nD, (iprop(unscopedSems0 c ∗ owes (c : Thread nD τ) (0 : CellTallies nD τ sig Unit) ∅
        ∗ Pipeline.launchCred (fun _ => (0 : CellTallies nD τ sig Unit)) c ∗ prngReg c (ρ c) ∗ emp) : sProp 𝕄) ⊢ Er (F := F) c := fun c => by
    unfold Er
    iintro ⟨-, HO, -, Hp, -⟩
    isplitl [Hp]
    · iexists (ρ c); iexact Hp
    · iexists ∅; iexact HO
  have h : (bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ emp) : sProp 𝕄) ⊢ bigSep Finset.univ (Er (F := F)) :=
    bigSep_mono fun c _ => h1 c
  iintro ⟨H, -⟩
  ihave H' := h $$ H
  imodintro
  iexact H'

set_option backward.isDefEq.respectTransparency.types false in
/-- THE RUN. From any memory with zero counters every weakly fair execution of @main terminates, with every unscoped buffer
    at the last valuation and every counter at zero. -/
theorem run (ρ : Dev nD → PrngReg) :
    θ_run defs (onTc (τ := τ) (main (F := F))) ⟨m, fun _ => 0, ρ⟩ (fun r => (∀ c : Dev nD,
      ∀ b ∈ Pipeline.ucRefs τ sig, r.2.mem ((c : Thread nD τ).1, b) = V5 m (outs m) c b)
      ∧ r.2.sem = fun _ => 0) := by
  refine Pipeline.θ_run_regions_kit_dev_sems (pcfgs (F := F)) adm (pdats m) () cellOf_inj emb₁ defs₀ Variants.none Lc lvc m ρ main
    (segs m (outs m) Variants.none Lc lvc (fun _ => Er (F := F)) () (pdats m) (R0 m) (R1 m) (R2 m))
    (fun c Q => by
      rewrite [main_chain c, Seg.run_eq_chain,
        show (segs m (outs m) Variants.none Lc lvc (fun _ => Er (F := F)) () (pdats m) (R0 m) (R1 m) (R2 m) c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0)
    (fun g h => if_neg h) (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ Er (F := F) c))
    (Tₙ := fun c => StableHlo.held (c : Thread nD τ) (Pipeline.ucRefs τ sig) (V5 m (outs m) c))
    (hch := fun c => ⟨.rfl, hpre0 m c, (hpost0 m c).trans (hpre1 m c), (hpost1 m c).trans (hpre2 m c),
      (hpost2 m c).trans (by rw [← V4_eq]; exact .rfl), sep_mono .rfl (rest_owes c)⟩)
    (hinit := ?_) (QY := fun c s => ∀ b ∈ Pipeline.ucRefs τ sig, s.mem ((c : Thread nD τ).1, b) = V5 m (outs m) c b)
    (hfin := fun c s' => ?_) (hQ := fun _ h hz => ⟨h, funext fun g => hz g (.inr (regions_no_unscoped g.2))⟩)
  · rw [ownU_emb₁]
    iintro H
    imodintro
    isplitl [H]; · iexact H
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c : Thread nD τ) (0 : CellTallies nD τ sig Unit) ∅ ∗ Pipeline.launchCred (fun _ => (0 : CellTallies nD τ sig Unit)) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => (0 : CellTallies nD τ sig Unit)) c ∗ prngReg c (ρ c) ∗ emp)) : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_rest (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact h
    · iexact HSI

/-- A buffer of the TensorCore that no launch scopes is among the held ones. -/
theorem mem_uc (r : Ref sig .tc) (h : ¬ (Proc.devRef (τ := τ) .tc r).isScoped = true) : Proc.devRef .tc r ∈ Pipeline.ucRefs τ sig :=
  Finset.mem_filter.mpr ⟨StableHlo.devRef_mem_tcRefs r, h⟩

/-- The frame: each argument as launched, every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m ρ) fun r h =>
    ⟨fun c => ⟨(h.1 c _ (mem_uc main_arg0 (by decide))).trans (V5_main_arg0 m (outs m) c),
      (h.1 c _ (mem_uc main_arg1 (by decide))).trans (V5_main_arg1 m (outs m) c)⟩, h.2⟩

end Cert.KernelIdeal.Own

end
-- ==== Proof.Value.Spec.lean ====
/- The mathematics both programs compute, as plain functions of the two argument arrays over the extended reals: the
   largest absolute value, the power-of-two scale and its reciprocal, the clipped codes, the scaled product. -/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.Proof.Spec

open Idealize.ShloMosaic
open Cert.KernelIdeal (S4x2048x8192 S3072x8192 S4x2048x3072)

/-- The reciprocal of the natural logarithm of 2, which turns `log` into `log2`. -/
def log2e : Ideal .f32 := (((Real.log 2)⁻¹ : ℝ) : EReal)

/-- The exponent of the scale of a tensor whose largest absolute value is `a`, `c` the word of the reciprocal of the
    format's largest value: `floor (log2 (a * c)) + 1`, and 0 for a tensor of zeros. -/
def expo (c : BitVec 32) (a : Ideal .f32) : Ideal .f32 :=
  Scalar.select (FloatOps.cmpf .oeq a (Scalar.ofBits .f32 0x00000000#32)) (Scalar.ofBits .f32 0x00000000#32)
    (FloatOps.addf (FloatOps.floor (FloatOps.mulf (FloatOps.log (FloatOps.mulf a (Scalar.ofBits .f32 c))) log2e))
      (Scalar.ofBits .f32 0x3F800000#32))

/-- The scale. -/
def up (c : BitVec 32) (a : Ideal .f32) : Ideal .f32 := FloatOps.exp2 (expo c a)

/-- Its reciprocal, computed as a power of two of the opposite exponent. -/
def dn (c : BitVec 32) (a : Ideal .f32) : Ideal .f32 :=
  FloatOps.exp2 (FloatOps.subf (Scalar.ofBits .f32 0x00000000#32) (expo c a))

/-- A value times the reciprocal scale `s`, clipped between the words `lo` and `hi`. -/
def code (lo hi : BitVec 32) (s x : EReal) : EReal :=
  min (Ideal.ofBits .f32 hi) (max (Ideal.ofBits .f32 lo) (x * s))

variable (X : FVec Ideal S4x2048x8192 .bf16) (W : FVec Ideal S3072x8192 .f32)

/-- The largest absolute value of `dy`. -/
def amaxX : Ideal .f32 := ⨆ i, FloatOps.absf (F := Ideal) (φ := .bf16) (X i)

/-- The largest absolute value of `w`. -/
def amaxW : Ideal .f32 := ⨆ i, FloatOps.absf (F := Ideal) (φ := .f32) (W i)

/-- The scale of `dy`. -/
def scaleX : EReal := up 0x37924925#32 (amaxX X)

/-- The scale of `w`. -/
def scaleW : EReal := up 0x3B124925#32 (amaxW W)

/-- The codes of `dy`. -/
def codeX : FVec Ideal S4x2048x8192 .fp8e5m2 := fun i =>
  code 0xC7600000#32 0x47600000#32 (dn 0x37924925#32 (amaxX X)) (X i)

/-- The codes of `w`. -/
def codeW : FVec Ideal S3072x8192 .fp8e4m3 := fun i =>
  code 0xC3E00000#32 0x43E00000#32 (dn 0x3B124925#32 (amaxW W)) (W i)

/-- The product of the codes, rescaled. -/
def prod : FVec Ideal S4x2048x3072 .bf16 := fun j =>
  (∑ k : Fin 8192, (show EReal from codeX X (ix3 (j 0) (j 1) k)) * (show EReal from codeW W (ix2 (j 2) k)))
    * (scaleX X * scaleW W)

/-- An absolute value is nonnegative. -/
theorem absf_nonneg {φ : FTy} (x : Ideal φ) : (0 : EReal) ≤ FloatOps.absf x := by
  show (0 : EReal) ≤ max x (-x)
  rcases le_total 0 (show EReal from x) with h | h
  · exact le_max_of_le_left h
  · exact le_max_of_le_right (by simpa using EReal.neg_le_neg_iff.mpr h)

end Cert.Proof.Spec

end
-- ==== Proof.Value.Amax.lean ====
/- What the first kernel leaves in its table: the scales of the two tensors, their reciprocals and the rescaling factor. -/
module

public import proofs.«01_k».proof.Proof.Value.Spec
public import proofs.«01_k».proof.Proof.KernelIdeal.K0
public import Idealize.ShloMosaic.Lib.ValueIdx
public import Idealize.ShloMosaic.Lib.WholeRead
public import Idealize.ShloMosaic.Lib.Pipeline.Value
public import Idealize.ShloMosaic.Lib.Claim

@[expose] public section

set_option maxRecDepth 16384

noncomputable section

namespace Cert.KernelIdeal.Own.K0

open Cert.KernelIdeal Cert.KernelIdeal.Gen
open Idealize.SL.RA
open Idealize.ShloMosaic Idealize.ShloMosaic.TcCoe Idealize.ShloMosaic.Tactic
open Idealize.ShloMosaic.Pipeline (Dat)
open Cert.Proof.Spec

/-! ## Bounds of a maximum -/

/-- The absolute value of an entry, as an extended real. -/
abbrev abs' (φ : FTy) (x : Ideal φ) : EReal := FloatOps.absf (F := Ideal) (φ := φ) x

/-- A bound of the entries of a reshaped array is a bound of the entries of the array. -/
theorem forall_shapeCast {s t : Shape} {α : Type} (x : s.Idx → α) (h : s.ShapeCasts t) (h' : t.ShapeCasts s) (P : α → Prop) :
    (∀ i, P (shapeCast t x h i)) ↔ ∀ z, P (x z) :=
  ⟨fun hh z => by rw [← shapeCast_shapeCast x h h']; exact hh _, fun hh i => hh _⟩

/-- A maximum along some axes, started from minus infinity, is bounded exactly when all the entries are. -/
theorem reduceMax_le {s t : Shape} {axes : List (Fin s.rank)} {φ : FTy} (src : FVec Ideal s φ) (acc : BitVec φ.bits)
    (h : s.Reduces axes t) (hφ : FKind.Formats φ) (hacc : acc = FKind.maximumf.neutral φ hφ)
    (hb : (Ideal.ofBits φ acc : EReal) = ⊥) (C : EReal) :
    (∀ j, (show EReal from multiReduction (F := Ideal) .maximumf axes t src acc h hφ hacc j) ≤ C) ↔ ∀ i, (show EReal from src i) ≤ C := by
  have key : ∀ j, (show EReal from multiReduction (F := Ideal) .maximumf axes t src acc h hφ hacc j) ≤ C
      ↔ ∀ i, h.drop i = j → (show EReal from src i) ≤ C := by
    intro j
    show multiReduction (F := Ideal) .maximumf axes t src acc h hφ hacc j ≤ C ↔ _
    rw [multiReduction_maximumf_eq_fold]
    refine (Finset.fold_max_le C).trans ⟨fun hh i hi => hh.2 i (Finset.mem_filter.mpr ⟨Finset.mem_univ _, hi⟩), fun hh => ⟨?_, fun i hi => hh i (Finset.mem_filter.mp hi).2⟩⟩
    show (Ideal.ofBits φ acc : EReal) ≤ C
    rw [hb]; exact bot_le
  exact ⟨fun hh i => (key _).mp (hh _) i rfl, fun hh j => (key j).mpr fun i _ => hh i⟩

/-- The f32 word the maximum starts from reads as minus infinity. -/
theorem ninf32 : (Ideal.ofBits .f32 0xFF800000#32 : EReal) = ⊥ := by simp [Ideal.ofBits, Ideal.ieee]
/-- The bf16 word the maximum starts from reads as minus infinity. -/
theorem ninf16 : (Ideal.ofBits .bf16 0xFF80#16 : EReal) = ⊥ := by simp [Ideal.ofBits, Ideal.ieee]

/-- One step of the first accumulator: bounded exactly when the accumulator and the absolute values of the block are. -/
theorem pay3_le (x : Vec Ideal S256x8192 .bf16) (s : Vec Ideal S16x8192 .bf16) (C : EReal) :
    (∀ y, (show EReal from k0_pay3 x s y) ≤ C) ↔ (∀ y, (show EReal from s y) ≤ C) ∧ ∀ z, abs' .bf16 (x z) ≤ C := by
  unfold k0_pay3
  simp only [shapeCast_self]
  refine (forall_congr' fun y => (max_le_iff : max _ _ ≤ C ↔ _)).trans (forall_and.trans (and_congr Iff.rfl ?_))
  refine (reduceMax_le _ _ _ _ _ ninf16 C).trans ?_
  exact forall_shapeCast (s := S256x8192) (t := S16x16x8192) (absf x) _ (by decide) fun v : Ideal .bf16 => (show EReal from v) ≤ C

/-- One step of the second accumulator. -/
theorem pay4_le (x : Vec Ideal S96x8192 .f32) (s : Vec Ideal S8x8192 .f32) (C : EReal) :
    (∀ y, (show EReal from k0_pay4 x s y) ≤ C) ↔ (∀ y, (show EReal from s y) ≤ C) ∧ ∀ z, abs' .f32 (x z) ≤ C := by
  unfold k0_pay4
  simp only [shapeCast_self]
  refine (forall_congr' fun y => (max_le_iff : max _ _ ≤ C ↔ _)).trans (forall_and.trans (and_congr Iff.rfl ?_))
  refine (reduceMax_le _ _ _ _ _ ninf32 C).trans ?_
  exact forall_shapeCast (s := S96x8192) (t := S12x8x8192) (absf x) _ (by decide) fun v : Ideal .f32 => (show EReal from v) ≤ C

/-- The renamed constant reads as the reciprocal of the logarithm of 2. -/
theorem named_log2e : (Named.named κ "log2_e" 0x3FB8AA3B#32 : Ideal .f32) = log2e :=
  IdealRules.named_const.ideal_named_scalar _ _ _ _ rfl

/-- The shape of one entry has one index. -/
theorem S1_idx (i j : S1.Idx) : i = j := funext fun k => match k with | ⟨0, _⟩ => Subsingleton.elim (α := Fin 1) _ _

/-- The one entry of an array of one entry is bounded exactly when every entry is. -/
theorem extract_le (v : FVec Ideal S1 .f32) (h5 h6) (C : EReal) :
    (extractAt ![0, 0, 0] (shapeCast S1x1x1 v h5) h6 : EReal) ≤ C ↔ ∀ k, (show EReal from v k) ≤ C := by
  unfold extractAt shapeCast
  exact ⟨fun hh k => by rw [S1_idx k _]; exact hh, fun hh => hh _⟩

/-- The exponent of the scale of the first tensor, the accumulator's largest entry being `a`. -/
theorem pay6_apply (A : Vec Ideal S16x8192 .bf16) (a : EReal) (hA : ∀ C, (∀ y, (show EReal from A y) ≤ C) ↔ a ≤ C) (j) :
    k0_pay6 A j = expo 0x37924925#32 a := by
  have hm : (extractAt ![0, 0, 0] (shapeCast S1x1x1 (multiReduction (F := Ideal) (φ := .f32) .maximumf [1, 2] S1
      (shapeCast S1x16x8192 (extf (F := Ideal) (φ := .bf16) .f32 A bitsLt_bf16_f32) shapeCasts_S16x8192_S1x16x8192) 0xFF800000#32
      reduces_S1x16x8192_S1 (.inl rfl) rfl) shapeCasts_S1_S1x1x1) inpos_S1x1x1_p0_0_0 : Ideal .f32) = a := by
    refine eq_of_forall_ge_iff fun C => (extract_le _ _ _ C).trans (Iff.trans ?_ (hA C))
    refine (reduceMax_le _ _ _ _ _ ninf32 C).trans ?_
    exact forall_shapeCast (s := S16x8192) (t := S1x16x8192) (extf (F := Ideal) (φ := .bf16) .f32 A bitsLt_bf16_f32) _ (by decide)
      fun v : Ideal .f32 => (show EReal from v) ≤ C
  unfold k0_pay6
  dsimp only
  rw [hm]
  unfold expo
  rw [← named_log2e]
  rfl

/-- The exponent of the scale of the second tensor. -/
theorem pay9_apply (A : Vec Ideal S8x8192 .f32) (a : EReal) (hA : ∀ C, (∀ y, (show EReal from A y) ≤ C) ↔ a ≤ C) (j) :
    k0_pay9 A j = expo 0x3B124925#32 a := by
  have hm : (extractAt ![0, 0, 0] (shapeCast S1x1x1 (multiReduction (F := Ideal) (φ := .f32) .maximumf [1, 2] S1
      (shapeCast S1x8x8192 A shapeCasts_S8x8192_S1x8x8192) 0xFF800000#32
      reduces_S1x8x8192_S1 (.inl rfl) rfl) shapeCasts_S1_S1x1x1) inpos_S1x1x1_p0_0_0 : Ideal .f32) = a := by
    refine eq_of_forall_ge_iff fun C => (extract_le _ _ _ C).trans (Iff.trans ?_ (hA C))
    refine (reduceMax_le _ _ _ _ _ ninf32 C).trans ?_
    exact forall_shapeCast (s := S8x8192) (t := S1x8x8192) A _ (by decide) fun v : Ideal .f32 => (show EReal from v) ≤ C
  unfold k0_pay9
  dsimp only
  rw [hm]
  unfold expo
  rw [← named_log2e]
  rfl

/-! ## The table -/

section
variable (v50 v53 v65 v66 : FVec Ideal S1x1 .f32) (z : Ideal .f32)
/-- Row 0 of the stored table: the scale of the first tensor. -/
theorem row0 : k0_pay5 v50 v53 v65 v66 z (ix2 0 0) = v50 (ix2 0 0) := by unfold k0_pay5; pointwise; rfl
/-- Row 1: the reciprocal of that scale. -/
theorem row1 : k0_pay5 v50 v53 v65 v66 z (ix2 1 0) = v53 (ix2 0 0) := by unfold k0_pay5; pointwise; rfl
/-- Row 2: the scale of the second tensor. -/
theorem row2 : k0_pay5 v50 v53 v65 v66 z (ix2 2 0) = v66 (ix2 0 0) := by unfold k0_pay5; pointwise; rfl
/-- Row 3: the reciprocal of that scale. -/
theorem row3 : k0_pay5 v50 v53 v65 v66 z (ix2 3 0) = FloatOps.exp2 (FloatOps.subf z (v65 (ix2 0 0))) := by unfold k0_pay5; pointwise; rfl
/-- Row 4: the product of the two scales. -/
theorem row4 : k0_pay5 v50 v53 v65 v66 z (ix2 4 0) = FloatOps.mulf (v50 (ix2 0 0)) (v66 (ix2 0 0)) := by unfold k0_pay5; pointwise
end

/-! ## The runs of the three cases -/

/-- A load of a whole buffer reads its contents. -/
theorem readAt_whole {S : Shape} {e : EltTy} (m : Memref sig .tc .vmem S e) (hm : m.IsWhole) (X : S.Idx → Elt Ideal e)
    {off : Fin S.rank → ℕ} {inb : ∀ a, off a + S.size a ≤ S.size a} (h : ∀ a, off a = 0) :
    View.readAt (Elt Ideal) m.view (Rect.unit off S.size inb).toLoadRect (hm.unread X) = X :=
  funext fun x => (Memref.IsWhole.readAt_unread hm X _ x).trans (congrFun (View.ld_unit_lit inb X h) x)

section
variable (c : Dev nD) (i : grid0.Coords) (arg1 : Memref sig .tc .vmem S256x8192 .bf16) (harg1 : arg1.IsWhole) (arg2 : Memref sig .tc .vmem S96x8192 .f32) (harg2 : arg2.IsWhole) (arg3 : Memref sig .tc .vmem S8x128 .f32) (harg3 : arg3.IsWhole)
  (arg4 : Memref sig .tc .vmem S16x8192 .bf16) (harg4 : arg4.IsWhole) (arg5 : Memref sig .tc .vmem S8x8192 .f32) (harg5 : arg5.IsWhole)
  (x0 : Vec Ideal S256x8192 .bf16) (x1 : Vec Ideal S96x8192 .f32) (s0 : Vec Ideal S16x8192 .bf16) (s1 : Vec Ideal S8x8192 .f32)

/-- The first grid point leaves the first accumulator one step from zero. -/
theorem soutA_0 (h0) (h1) : sout0_A_0 (F := Ideal) c i arg1 harg1 arg2 harg2 arg3 harg3 arg4 harg4 arg5 harg5 h0 h1 x0 x1 = k0_pay3 x0 (k0_pay1 (F := Ideal)) := by
  funext y
  unfold sout0_A_0
  rw [View.read_writes_junk_eq_canon]
  refine (congrFun (View.canon_cons_unit_lit _ _ _ (by decide)) y).trans ?_
  exact congrFun (congr (congrArg k0_pay3 (readAt_whole _ _ _ (by decide))) (View.readCov_unit_lit _ _ _ (by decide))) y

/-- The first grid point leaves the second accumulator one step from zero. -/
theorem soutA_1 (h0) (h1) : sout0_A_1 (F := Ideal) c i arg1 harg1 arg2 harg2 arg3 harg3 arg4 harg4 arg5 harg5 h0 h1 x0 x1 = k0_pay4 x1 (k0_pay2 (F := Ideal)) := by
  funext y
  unfold sout0_A_1
  rw [View.read_writes_junk_eq_canon]
  refine (congrFun (View.canon_cons_unit_lit _ _ _ (by decide)) y).trans ?_
  exact congrFun (congr (congrArg k0_pay4 (readAt_whole _ _ _ (by decide))) (View.readCov_unit_lit _ _ _ (by decide))) y

/-- A middle grid point takes the first accumulator one step on. -/
theorem soutB_0 (h0) (h1) : sout0_B_0 (F := Ideal) c i arg1 harg1 arg2 harg2 arg3 harg3 arg4 harg4 arg5 harg5 h0 h1 x0 x1 s0 s1 = k0_pay3 x0 s0 := by
  funext y
  unfold sout0_B_0
  rw [View.read_writes_junk_eq_canon]
  refine (congrFun (View.canon_cons_unit_lit _ _ _ (by decide)) y).trans ?_
  exact congrFun (congr (congrArg k0_pay3 (readAt_whole _ _ _ (by decide))) (readAt_whole _ _ _ (by decide))) y

/-- A middle grid point takes the second accumulator one step on. -/
theorem soutB_1 (h0) (h1) : sout0_B_1 (F := Ideal) c i arg1 harg1 arg2 harg2 arg3 harg3 arg4 harg4 arg5 harg5 h0 h1 x0 x1 s0 s1 = k0_pay4 x1 s1 := by
  funext y
  unfold sout0_B_1
  rw [View.read_writes_junk_eq_canon]
  refine (congrFun (View.canon_cons_unit_lit _ _ _ (by decide)) y).trans ?_
  exact congrFun (congr (congrArg k0_pay4 (readAt_whole _ _ _ (by decide))) (readAt_whole _ _ _ (by decide))) y

/-- The last grid point takes the first accumulator one step on. -/
theorem soutC_0 (h0) (h1) : sout0_C_0 (F := Ideal) c i arg1 harg1 arg2 harg2 arg3 harg3 arg4 harg4 arg5 harg5 h0 h1 x0 x1 s0 s1 = k0_pay3 x0 s0 := by
  funext y
  unfold sout0_C_0
  rw [View.read_writes_junk_eq_canon]
  refine (congrFun (View.canon_cons_unit_lit _ _ _ (by decide)) y).trans ?_
  exact congrFun (congr (congrArg k0_pay3 (readAt_whole _ _ _ (by decide))) (readAt_whole _ _ _ (by decide))) y

/-- The last grid point takes the second accumulator one step on. -/
theorem soutC_1 (h0) (h1) : sout0_C_1 (F := Ideal) c i arg1 harg1 arg2 harg2 arg3 harg3 arg4 harg4 arg5 harg5 h0 h1 x0 x1 s0 s1 = k0_pay4 x1 s1 := by
  funext y
  unfold sout0_C_1
  rw [View.read_writes_junk_eq_canon]
  refine (congrFun (View.canon_cons_unit_lit _ _ _ (by decide)) y).trans ?_
  exact congrFun (congr (congrArg k0_pay4 (readAt_whole _ _ _ (by decide))) (readAt_whole _ _ _ (by decide))) y

/-- The table the last grid point stores, from the two accumulators. -/
theorem outC (h0) (h1) : out0_C_2 (F := Ideal) c i arg1 harg1 arg2 harg2 arg3 harg3 arg4 harg4 arg5 harg5 h0 h1 x0 x1 s0 s1 = k0_pay5 (k0_pay7 (k0_pay3 x0 s0)) (k0_pay8 (k0_pay3 x0 s0))
    (k0_pay9 (k0_pay4 x1 s1)) (k0_pay10 (k0_pay4 x1 s1)) (Scalar.ofBits .f32 0x00000000#32) := by
  funext y
  unfold out0_C_2
  rw [View.read_writes_junk_eq_canon]
  refine (congrFun (View.canon_cons_unit_lit _ _ _ (by decide)) y).trans ?_
  unfold kernelRun0_C.sl.r kernelRun0_C.sl.r_1 kernelRun0_C.sl.r_2 kernelRun0_C.sl.r_3 kernelRun0_C.sl.cst_31
  have e25 : kernelRun0_C.sl.v25 c arg1 harg1 arg4 harg4 x0 s0 = k0_pay3 x0 s0 :=
    (View.readCov_unit_lit _ _ _ (by decide)).trans (congr (congrArg k0_pay3 (readAt_whole _ _ _ (by decide))) (readAt_whole _ _ _ (by decide)))
  have e32 : kernelRun0_C.sl.v32 c arg2 harg2 arg5 harg5 x1 s1 = k0_pay4 x1 s1 :=
    (View.readCov_unit_lit _ _ _ (by decide)).trans (congr (congrArg k0_pay4 (readAt_whole _ _ _ (by decide))) (readAt_whole _ _ _ (by decide)))
  rw [e25, e32]

end

/-! ## The accumulators and the table after each point -/

variable (V : (c : Dev nD) → (b : Ref sig .tc) → Buf (Elt Ideal) ((c : Thread nD τ).loc b)) (c : Dev nD)

/-- The contents before point `t`, after the one before it. -/
abbrev prev (t : Fin cfg0.N) : Vec Ideal S8x128 .f32 × Vec Ideal S16x8192 .bf16 × Vec Ideal S8x8192 .f32 :=
  outsAt0 V c (t.val - 1) (Nat.lt_of_le_of_lt (Nat.sub_le _ _) t.isLt)

/-- The first point starts the accumulators at zero. -/
theorem first (t : Fin cfg0.N) (h0 : t.val % 32 = 0) : (outsAt0 V c t.val t.isLt).2 = (k0_pay3 (iblk V c 0 t) (k0_pay1 (F := Ideal)), k0_pay4 (iblk V c 1 t) (k0_pay2 (F := Ideal))) := by
  rw [outsAt0_A V c t h0 (by omega)]
  dsimp only
  rw [soutA_0, soutA_1]

/-- A later point steps them. -/
theorem step (t : Fin cfg0.N) (h0 : ¬t.val % 32 = 0) :
    (outsAt0 V c t.val t.isLt).2 = (k0_pay3 (iblk V c 0 t) (prev V c t).2.1, k0_pay4 (iblk V c 1 t) (prev V c t).2.2) := by
  by_cases h1 : t.val % 32 = 31
  · rw [outsAt0_C V c t h0 h1]
    dsimp only
    rw [soutC_0, soutC_1]
  · rw [outsAt0_B V c t h0 h1]
    dsimp only
    rw [soutB_0, soutB_1]

/-- The bf16 zero word reads as 0. -/
theorem zero16 (y) : (show EReal from k0_pay1 (F := Ideal) y) = 0 := by
  unfold k0_pay1
  simp only [shapeCast_self]
  show (Ideal.ofBits .bf16 0x0000#16 : EReal) = 0
  simp [Ideal.ofBits, Ideal.ieee]
/-- The f32 zero word reads as 0. -/
theorem zero32 (y) : (show EReal from k0_pay2 (F := Ideal) y) = 0 := by
  unfold k0_pay2
  simp only [shapeCast_self]
  show (Ideal.ofBits .f32 0x00000000#32 : EReal) = 0
  simp [Ideal.ofBits, Ideal.ieee]

/-- After point `n` the accumulators are bounded exactly when 0 and the absolute values of all the blocks so far are. -/
theorem acc_le (C : EReal) (n : ℕ) (hn : n < cfg0.N) :
    ((∀ y, (show EReal from (outsAt0 V c n hn).2.1 y) ≤ C) ↔ 0 ≤ C ∧ ∀ t : Fin cfg0.N, t.val ≤ n → ∀ z, abs' .bf16 (iblk V c 0 t z) ≤ C)
    ∧ ((∀ y, (show EReal from (outsAt0 V c n hn).2.2 y) ≤ C) ↔ 0 ≤ C ∧ ∀ t : Fin cfg0.N, t.val ≤ n → ∀ z, abs' .f32 (iblk V c 1 t z) ≤ C) := by
  have hN : cfg0.N = 32 := N_0
  induction n with
  | zero =>
    have h := first V c ⟨0, hn⟩ rfl
    have e : ∀ t : Fin cfg0.N, t.val ≤ 0 ↔ t = ⟨0, hn⟩ := fun t => ⟨fun h => Fin.ext (Nat.le_zero.mp h), fun h => by rw [h]⟩
    rw [h]
    constructor
    · refine (pay3_le _ _ C).trans (and_congr ?_ ?_)
      · simp only [zero16]; exact ⟨fun hh => hh (ix2 0 0), fun hh _ => hh⟩
      · exact ⟨fun hh t ht => by rw [(e t).mp ht]; exact hh, fun hh => hh _ (le_refl 0)⟩
    · refine (pay4_le _ _ C).trans (and_congr ?_ ?_)
      · simp only [zero32]; exact ⟨fun hh => hh (ix2 0 0), fun hh _ => hh⟩
      · exact ⟨fun hh t ht => by rw [(e t).mp ht]; exact hh, fun hh => hh _ (le_refl 0)⟩
  | succ n ih =>
    have h := step V c ⟨n + 1, hn⟩ (by show ¬(n + 1) % 32 = 0; omega)
    have e : ∀ P : Fin cfg0.N → Prop, (∀ t, t.val ≤ n + 1 → P t) ↔ (∀ t, t.val ≤ n → P t) ∧ P ⟨n + 1, hn⟩ := fun P =>
      ⟨fun hh => ⟨fun t ht => hh t (by omega), hh _ (le_refl (n + 1))⟩, fun hh t ht => by
        rcases Nat.lt_or_ge n t.val with h | h
        · rw [show t = ⟨n + 1, hn⟩ from Fin.ext (by show t.val = n + 1; omega)]; exact hh.2
        · exact hh.1 t h⟩
    have ih := ih (Nat.lt_of_succ_lt hn)
    rw [h]
    constructor
    · refine (pay3_le _ _ C).trans ?_
      rw [e, ← and_assoc]
      exact and_congr ih.1 Iff.rfl
    · refine (pay4_le _ _ C).trans ?_
      rw [e, ← and_assoc]
      exact and_congr ih.2 Iff.rfl

/-- The table the last point stores. -/
theorem table (t : Fin cfg0.N) (h1 : t.val % 32 = 31) :
    (outsAt0 V c t.val t.isLt).1 = k0_pay5 (k0_pay7 (outsAt0 V c t.val t.isLt).2.1) (k0_pay8 (outsAt0 V c t.val t.isLt).2.1)
      (k0_pay9 (outsAt0 V c t.val t.isLt).2.2) (k0_pay10 (outsAt0 V c t.val t.isLt).2.2) (Scalar.ofBits .f32 0x00000000#32) := by
  have h0 : ¬t.val % 32 = 0 := by omega
  rw [step V c t h0, outsAt0_C V c t h0 h1]
  dsimp only
  rw [outC]

/-- The block index of each window at a grid point. -/
theorem idx : ∀ t : Fin cfg0.N, win0_0.index t = ![(t : ℕ), 0] ∧ win0_1.index t = ![(t : ℕ), 0] ∧ win0_2.index t = ![0, 0] :=
  (by decide +kernel : ∀ t : Fin grid0.N, _)

/-- The blocks of the first window are rows of the array: a bound of all of them is a bound of the array. -/
theorem blocks0 (X : Vec Ideal S8192x8192 .bf16) (hX : V c (Pipeline.arrRef spec0 0) = X) (C : EReal) :
    (∀ t : Fin cfg0.N, ∀ z, abs' .bf16 (iblk V c 0 t z) ≤ C) ↔ ∀ i, abs' .bf16 (X i) ≤ C := by
  constructor
  · intro hh i
    obtain ⟨a, b, rfl⟩ : ∃ a b, i = ix2 a b := ⟨_, _, eq_ix2 i⟩
    have ht : a.val / 256 < cfg0.N := by rw [show cfg0.N = 32 from N_0]; omega
    have h := hh ⟨a.val / 256, ht⟩ (ix2 ⟨a.val % 256, Nat.mod_lt _ (by decide)⟩ b : S256x8192.Idx)
    have e : (iblk V c 0 ⟨a.val / 256, ht⟩ : Vec Ideal S256x8192 .bf16) (ix2 ⟨a.val % 256, Nat.mod_lt _ (by decide)⟩ b) = X (ix2 a b) := by
      unfold iblk
      rw [hX]
      blk_point [idx ⟨a.val / 256, ht⟩]
    rw [← e]; exact h
  · intro hh t z
    unfold iblk
    rw [hX]
    exact hh _

/-- The same for the second window. -/
theorem blocks1 (X : Vec Ideal S3072x8192 .f32) (hX : V c (Pipeline.arrRef spec0 1) = X) (C : EReal) :
    (∀ t : Fin cfg0.N, ∀ z, abs' .f32 (iblk V c 1 t z) ≤ C) ↔ ∀ i, abs' .f32 (X i) ≤ C := by
  constructor
  · intro hh i
    obtain ⟨a, b, rfl⟩ : ∃ a b, i = ix2 a b := ⟨_, _, eq_ix2 i⟩
    have ht : a.val / 96 < cfg0.N := by rw [show cfg0.N = 32 from N_0]; omega
    have h := hh ⟨a.val / 96, ht⟩ (ix2 ⟨a.val % 96, Nat.mod_lt _ (by decide)⟩ b : S96x8192.Idx)
    have e : (iblk V c 1 ⟨a.val / 96, ht⟩ : Vec Ideal S96x8192 .f32) (ix2 ⟨a.val % 96, Nat.mod_lt _ (by decide)⟩ b) = X (ix2 a b) := by
      unfold iblk
      rw [hX]
      blk_point [idx ⟨a.val / 96, ht⟩]
    rw [← e]; exact h
  · intro hh t z
    unfold iblk
    rw [hX]
    exact hh _

/-- The rows of the stored table, from accumulators whose largest entries are `a` and `b`. -/
theorem rows_of (A : Vec Ideal S16x8192 .bf16) (B : Vec Ideal S8x8192 .f32) (a b : EReal) (hA : ∀ C : EReal, (∀ y, (show EReal from A y) ≤ C) ↔ a ≤ C)
    (hB : ∀ C : EReal, (∀ y, (show EReal from B y) ≤ C) ↔ b ≤ C) (T : FVec Ideal S8x128 .f32)
    (hT : T = k0_pay5 (k0_pay7 A) (k0_pay8 A) (k0_pay9 B) (k0_pay10 B) (Scalar.ofBits .f32 0x00000000#32)) :
    T (ix2 0 0) = up 0x37924925#32 a ∧ T (ix2 1 0) = dn 0x37924925#32 a
    ∧ T (ix2 2 0) = up 0x3B124925#32 b ∧ T (ix2 3 0) = dn 0x3B124925#32 b
    ∧ T (ix2 4 0) = FloatOps.mulf (up 0x37924925#32 a) (up 0x3B124925#32 b) := by
  have h6 : k0_pay6 A = fun _ => expo 0x37924925#32 a := funext (pay6_apply A a hA)
  have h9 : k0_pay9 B = fun _ => expo 0x3B124925#32 b := funext (pay9_apply B b hB)
  have h7 : k0_pay7 A (ix2 0 0) = up 0x37924925#32 a := by unfold k0_pay7; rw [h6]; rfl
  have h8 : k0_pay8 A (ix2 0 0) = dn 0x37924925#32 a := by unfold k0_pay8; rw [h6]; rfl
  have h10 : k0_pay10 B (ix2 0 0) = up 0x3B124925#32 b := by unfold k0_pay10; rw [h9]; rfl
  subst hT
  refine ⟨?_, ?_, ?_, ?_, ?_⟩
  · rw [row0, h7]
  · rw [row1, h8]
  · rw [row2, h10]
  · rw [row3, h9]; rfl
  · rw [row4, h7, h10]

/-- The last grid point. -/
abbrev last : Fin cfg0.N := ⟨31, by rw [show cfg0.N = 32 from N_0]; decide⟩

section
variable (X : Vec Ideal S8192x8192 .bf16) (W : Vec Ideal S3072x8192 .f32)
  (hX : V c (Pipeline.arrRef spec0 0) = X) (hW : V c (Pipeline.arrRef spec0 1) = W)

include hX in
/-- The largest entry of the first accumulator after the last point is the largest absolute value of the array. -/
theorem amax0 (C : EReal) : (∀ y, (show EReal from (outsAt0 V c last.val last.isLt).2.1 y) ≤ C) ↔ (⨆ i, abs' .bf16 (X i)) ≤ C := by
  refine (acc_le V c C 31 last.isLt).1.trans ?_
  rw [iSup_le_iff, ← blocks0 V c X hX C]
  exact ⟨fun hh t => hh.2 t (by have := t.isLt; have : cfg0.N = 32 := N_0; omega),
    fun hh => ⟨(absf_nonneg _).trans (hh last (ix2 0 0 : S256x8192.Idx)), fun t _ => hh t⟩⟩

include hW in
/-- The same for the second accumulator. -/
theorem amax1 (C : EReal) : (∀ y, (show EReal from (outsAt0 V c last.val last.isLt).2.2 y) ≤ C) ↔ (⨆ i, abs' .f32 (W i)) ≤ C := by
  refine (acc_le V c C 31 last.isLt).2.trans ?_
  rw [iSup_le_iff, ← blocks1 V c W hW C]
  exact ⟨fun hh t => hh.2 t (by have := t.isLt; have : cfg0.N = 32 := N_0; omega),
    fun hh => ⟨(absf_nonneg _).trans (hh last (ix2 0 0 : S96x8192.Idx)), fun t _ => hh t⟩⟩

/-- The table's array after the last grid point. -/
theorem arr2 : (dat V c).arrAt 2 cfg0.N = (outsAt0 V c last.val last.isLt).1 := by
  refine Dat.arrAt_eq_of_after_last (cfg := cfg0) (dat := dat V c) 2 last (by decide +kernel) _ fun j => ?_
  blk_simp
  rw [after0_2]

include hX hW in
/-- The table: the scale of the first tensor, its reciprocal, the scale of the second, its reciprocal, the product of the scales. -/
theorem rows (T : Vec Ideal S8x128 .f32) (hT : (dat V c).arrAt 2 cfg0.N = T) :
    T (ix2 0 0) = up 0x37924925#32 (⨆ i, abs' .bf16 (X i)) ∧ T (ix2 1 0) = dn 0x37924925#32 (⨆ i, abs' .bf16 (X i))
    ∧ T (ix2 2 0) = up 0x3B124925#32 (⨆ i, abs' .f32 (W i)) ∧ T (ix2 3 0) = dn 0x3B124925#32 (⨆ i, abs' .f32 (W i))
    ∧ T (ix2 4 0) = FloatOps.mulf (up 0x37924925#32 (⨆ i, abs' .bf16 (X i))) (up 0x3B124925#32 (⨆ i, abs' .f32 (W i))) :=
  rows_of _ _ _ _ (amax0 V c X hX) (amax1 V c W hW) T ((hT.symm.trans (arr2 V c)).trans (table V c last rfl))
end

end Cert.KernelIdeal.Own.K0

end
-- ==== Proof.Value.Quant.lean ====
/- What the second kernel leaves: the codes of the weights. -/
module

public import proofs.«01_k».proof.Proof.Value.Spec
public import proofs.«01_k».proof.Proof.KernelIdeal.K1
public import Idealize.ShloMosaic.Lib.ValueIdx
public import Idealize.ShloMosaic.Lib.WholeRead
public import Idealize.ShloMosaic.Lib.Pipeline.Value

@[expose] public section

set_option maxRecDepth 16384

noncomputable section

namespace Cert.KernelIdeal.Own.K1

open Cert.KernelIdeal Cert.KernelIdeal.Gen
open Idealize.SL.RA
open Idealize.ShloMosaic Idealize.ShloMosaic.TcCoe Idealize.ShloMosaic.Tactic
open Idealize.ShloMosaic.Pipeline (Dat)
open Cert.Proof.Spec

variable {Ix : Type} [DecidableEq Ix] {U : Type} [URA U] {Lvl : Type} [Preorder Lvl] (𝒱₀ : Variants)

/-- The block of codes the kernel leaves; the reciprocal scale is row 3 of the table. -/
theorem out_eq (c : Dev nD) (i : grid1.Coords) (arg1 : Memref sig .tc .vmem S8x128 .f32) (harg1 : arg1.IsWhole)
    (arg2 : Memref sig .tc .vmem S256x8192 .f32) (harg2 : arg2.IsWhole) (arg3 : Memref sig .tc .vmem S256x8192 .fp8e4m3) (harg3 : arg3.IsWhole)
    (T : Vec Ideal S8x128 .f32) (X : Vec Ideal S256x8192 .f32) (y : S256x8192.Idx) :
    out1_A_2 (F := Ideal) (Ix := Ix) (U := U) (Lvl := Lvl) 𝒱₀ c i arg1 harg1 arg2 harg2 arg3 harg3 T X y
      = code 0xC3E00000#32 0x43E00000#32 (T (ix2 3 0)) (X y) := by
  have hp : ∀ x : S256x8192.Idx, k1_pay1 (F := Ideal) (View.readAt (Elt Ideal) arg1.view (Rect.unit (s := S8x128) ![3, 0] S1x1.size (by decide)).toLoadRect (harg1.unread T))
      (View.readAt (Elt Ideal) arg2.view (Rect.unit (s := S256x8192) ![0, 0] S256x8192.size (by decide)).toLoadRect (harg2.unread X)) x
      = code 0xC3E00000#32 0x43E00000#32 (T (ix2 3 0)) (X ((Rect.unit (s := S256x8192) ![0, 0] S256x8192.size (by decide)).emb x)) := by
    intro x
    idx_vars x
    unfold k1_pay1 code
    pointwise
    rw [Memref.IsWhole.readAt_unread, Memref.IsWhole.readAt_unread]
    have h : (Rect.unit (s := S8x128) ![3, 0] S1x1.size (by decide)).emb (ix2 0 0) = (ix2 3 0 : S8x128.Idx) :=
      funext fun d => match d with | ⟨0, _⟩ => Fin.ext rfl | ⟨1, _⟩ => Fin.ext rfl
    rw [← h]
    rfl
  unfold out1_A_2
  rw [View.read_writes_junk_eq_canon]
  refine View.canon_apply_of_pieces (fun y => code 0xC3E00000#32 0x43E00000#32 (T (ix2 3 0)) (X y)) _ ?_ y
    (cover1_A_2 (Ix := Ix) (U := U) (Lvl := Lvl) 𝒱₀ c i arg1 harg1 arg2 harg2 arg3 harg3 T X y)
  intro p h x
  obtain rfl := List.mem_singleton.mp h
  exact hp x

/-- The block index of each window at a grid point. -/
theorem idx : ∀ t : Fin cfg1.N, win1_0.index t = ![0, 0] ∧ win1_1.index t = ![(t : ℕ), 0] ∧ win1_2.index t = ![(t : ℕ), 0] :=
  (by decide +kernel : ∀ t : Fin grid1.N, _)

variable (V : (c : Dev nD) → (b : Ref sig .tc) → Buf (Elt Ideal) ((c : Thread nD τ).loc b))

/-- The array of codes after the last grid point. -/
theorem arr2 (D) (c : Dev nD) (T : Vec Ideal S8x128 .f32) (X : Vec Ideal S3072x8192 .f32)
    (hT : V c (Pipeline.arrRef spec1 0) = T) (hX : V c (Pipeline.arrRef spec1 1) = X) :
    (dat (Ix := Ix) (U := U) (Lvl := Lvl) 𝒱₀ V D c).arrAt 2 cfg1.N = fun i => code 0xC3E00000#32 0x43E00000#32 (T (ix2 3 0)) (X i) := by
  refine Dat.arrAt_eq_of_covers (cfg := cfg1) (dat (Ix := Ix) (U := U) (Lvl := Lvl) 𝒱₀ V D c) 2 (fun i : S3072x8192.Idx => code 0xC3E00000#32 0x43E00000#32 (T (ix2 3 0)) (X i)) (by decide +kernel) fun t _ y => ?_
  blk_simp
  rw [after1_2]
  unfold outsAt1
  refine (out_eq 𝒱₀ c _ _ _ _ _ _ _ _ _ _).trans ?_
  unfold iblk
  rw [hT, hX]
  blk_point [idx t]

end Cert.KernelIdeal.Own.K1

end
-- ==== Proof.Value.GradSteps.lean ====
/- The steps of the third kernel's block, each for any column offset: a chunk of 256 codes, the store of a chunk, the load
   of a stored chunk, one more chunk in the running product, and the scaled store of 512 columns of the product. -/
module

public import proofs.«01_k».proof.Proof.Value.Spec
public import Idealize.ShloMosaic.Lib.ValueIdx
public import Idealize.ShloMosaic.Lib.WholeRead
public import Idealize.ShloMosaic.Lib.Pipeline.Value
public import Idealize.ShloMosaic.Lib.Pipeline.FrameBody

@[expose] public section

set_option maxRecDepth 16384

noncomputable section

namespace Cert.KernelIdeal.Own.K2

open Cert.KernelIdeal Cert.KernelIdeal.Gen
open Idealize.ShloMosaic Idealize.ShloMosaic.TcCoe Idealize.ShloMosaic.Tactic
open Cert.Proof.Spec

/-- Every piece of a list of stores holds the values of one function at its place. -/
def Agree {S : Shape} {e : EltTy} (G : S.Idx → Elt Ideal e) (L : List (View.Piece (Elt Ideal) S e)) : Prop :=
  ∀ p ∈ L, ∀ x : p.1.shape.Idx, p.2 x = G (p.1.emb x)

/-- The empty list of stores agrees with every function. -/
theorem agree_nil {S : Shape} {e : EltTy} (G : S.Idx → Elt Ideal e) : Agree G [] := fun _ h => nomatch h

/-- One more store of values of the function keeps a list in agreement with it. -/
theorem agree_cons {S : Shape} {e : EltTy} {G : S.Idx → Elt Ideal e} {L : List (View.Piece (Elt Ideal) S e)} {r : Rect S}
    {w : r.shape.Idx → Elt Ideal e} (hL : Agree G L) (hw : ∀ x, w x = G (r.emb x)) : Agree G (⟨r, w⟩ :: L) := by
  intro p hp
  rcases List.mem_cons.mp hp with rfl | h
  · exact hw
  · exact hL p h

/-- The codes of a block of rows, `s` the reciprocal scale. -/
def codes (s : EReal) (x1 : Vec Ideal S512x8192 .bf16) : Vec Ideal S512x8192 .fp8e5m2 := fun i =>
  code 0xC7600000#32 0x47600000#32 s (x1 i)

/-- A chunk of 256 columns quantised by the kernel's operations holds the codes. -/
theorem chunk (arg2 : Memref sig .tc .vmem S512x8192 .bf16) (harg2 : arg2.IsWhole) (x1 : Vec Ideal S512x8192 .bf16)
    (a : FVec Ideal S1x1 .f32) (o : ℕ) (inb : ∀ d, (![0, o] : Fin 2 → ℕ) d + S512x256.size d ≤ S512x8192.size d)
    (h1 : S512x256.ShapeCasts S512x256) (h2) (h3 : S1x1.Broadcasts S512x256) (h4) (x : S512x256.Idx) :
    truncf (F := Ideal) .fp8e5m2 (minimumf (broadcast S512x256 (FloatOps.ofBits .f32 0x47600000#32 : Ideal .f32))
      (maximumf (broadcast S512x256 (FloatOps.ofBits .f32 0xC7600000#32 : Ideal .f32))
        (mulf (extf (φ := .bf16) .f32 (shapeCast S512x256 (View.readAt (Elt Ideal) arg2.view (Rect.unit (s := S512x8192) ![0, o] S512x256.size inb).toLoadRect (harg2.unread x1)) h1) h2)
          (broadcastTo S512x256 a h3)))) h4 x
      = codes (a (ix2 0 0)) x1 ((Rect.unit (s := S512x8192) ![0, o] S512x256.size inb).emb x) := by
  idx_vars x
  unfold codes code
  pointwise
  rw [Memref.IsWhole.readAt_unread]
  rfl

/-- The stores of `L` cover the columns below `k`, and hold the values of `G`. -/
def Filled (G : Vec Ideal S512x8192 .fp8e5m2) (L : List (View.Piece (Elt Ideal) S512x8192 .fp8e5m2)) (k : ℕ) : Prop :=
  Agree G L ∧ ∀ y : S512x8192.Idx, (y 1).val < k → ∃ p ∈ L, y ∈ p.1.set

/-- Before the first store no column is filled. -/
theorem filled_nil (G) : Filled G [] 0 := ⟨agree_nil G, fun _ h => absurd h (Nat.not_lt_zero _)⟩

/-- A store of the next 256 columns fills them. -/
theorem filled_cons {G L} {k : ℕ} {inb : ∀ d, (![0, k] : Fin 2 → ℕ) d + S512x256.size d ≤ S512x8192.size d}
    {w : Vec Ideal S512x256 .fp8e5m2} (hL : Filled G L k) (hw : ∀ x : S512x256.Idx, w x = G ((Rect.unit (s := S512x8192) ![0, k] S512x256.size inb).emb x)) :
    Filled G (⟨Rect.unit (s := S512x8192) ![0, k] S512x256.size inb, w⟩ :: L) (k + 256) := by
  refine ⟨agree_cons hL.1 hw, fun y hy => ?_⟩
  by_cases h : (y 1).val < k
  · obtain ⟨p, hp, hm⟩ := hL.2 y h
    exact ⟨p, List.mem_cons_of_mem _ hp, hm⟩
  · refine ⟨_, List.mem_cons_self .., (Rect.mem_set_unit (s := S512x8192) (off := ![0, k]) (size := S512x256.size) (inb := inb)).mpr fun a => ?_⟩
    match a with
    | 0 => exact ⟨Nat.zero_le _, by have h0 : (y 0).val < 512 := (y 0).isLt; exact (show (y 0).val < 0 + 512 by omega)⟩
    | 1 => exact ⟨Nat.not_lt.mp h, hy⟩

/-- A load of 256 columns already stored reads the values of `G`. -/
theorem read_filled {G L} {k o : ℕ} (hL : Filled G L k) (hk : o + 256 ≤ k) (v : View sig .tc .vmem S512x8192 .fp8e5m2)
    {inb : ∀ d, (![0, o] : Fin 2 → ℕ) d + S512x256.size d ≤ S512x8192.size d} (x : S512x256.Idx) :
    v.readCov L (Rect.unit (s := S512x8192) ![0, o] S512x256.size inb).toLoadRect x = G ((Rect.unit (s := S512x8192) ![0, o] S512x256.size inb).emb x) := by
  rw [View.readCov_eq_canon']
  refine View.canon_apply_of_pieces G L hL.1 _ (hL.2 _ ?_)
  show o + 1 * (x 1).val < k
  have : (x 1).val < 256 := (x 1).isLt
  omega

/-- A load of the chunk just stored reads it. -/
theorem read_last {G : Vec Ideal S512x8192 .fp8e5m2} {L} {o : ℕ} (v : View sig .tc .vmem S512x8192 .fp8e5m2)
    {inb : ∀ d, (![0, o] : Fin 2 → ℕ) d + S512x256.size d ≤ S512x8192.size d} {w : Vec Ideal S512x256 .fp8e5m2}
    (hw : ∀ x : S512x256.Idx, w x = G ((Rect.unit (s := S512x8192) ![0, o] S512x256.size inb).emb x)) (x : S512x256.Idx) :
    v.readCov (⟨Rect.unit (s := S512x8192) ![0, o] S512x256.size inb, w⟩ :: L) (Rect.unit (s := S512x8192) ![0, o] S512x256.size inb).toLoadRect x
      = G ((Rect.unit (s := S512x8192) ![0, o] S512x256.size inb).emb x) := by
  rw [View.readCov_cons_toLoadRect]
  exact hw x

/-- One term of the product: row `r` of the codes against row `n` of the weights, at column `k` (0 past the last). -/
def term (G : Vec Ideal S512x8192 .fp8e5m2) (W : Vec Ideal S3072x8192 .fp8e4m3) (r : Fin 512) (n k : ℕ) : EReal :=
  if h : n < 3072 ∧ k < 8192 then (show EReal from G (ix2 r ⟨k, h.2⟩)) * (show EReal from W (ix2 ⟨n, h.1⟩ ⟨k, h.2⟩)) else 0

/-- `A` holds the products of the rows of `G` with rows `n0`, `n0 + 1`, … of `W` over the first `k` columns. -/
def Acc (G : Vec Ideal S512x8192 .fp8e5m2) (W : Vec Ideal S3072x8192 .fp8e4m3) (n0 k : ℕ) (A : FVec Ideal S512x512 .f32) : Prop :=
  ∀ (r n : Fin 512), A (ix2 r n) = ∑ t ∈ Finset.range k, term G W r (n0 + n) t

section
variable {G : Vec Ideal S512x8192 .fp8e5m2} {W : Vec Ideal S3072x8192 .fp8e4m3} {n0 o : ℕ}
  {arg3 : Memref sig .tc .vmem S3072x8192 .fp8e4m3} {harg3 : arg3.IsWhole}
  {inb : ∀ d, (![0, o] : Fin 2 → ℕ) d + S512x256.size d ≤ S512x8192.size d}
  {inb' : ∀ d, (![n0, o] : Fin 2 → ℕ) d + S512x256.size d ≤ S3072x8192.size d}
  {h1 h2 : S512x256.ShapeCasts S512x256} {a : Vec Ideal S512x256 .fp8e5m2} {A : FVec Ideal S512x512 .f32}

/-- The product of one chunk of 256 columns. -/
theorem part_apply (ha : ∀ x : S512x256.Idx, a x = G ((Rect.unit (s := S512x8192) ![0, o] S512x256.size inb).emb x)) (r n : Fin 512) :
    matmul (F := Ideal) (φ₁ := .fp8e5m2) (φ₂ := .fp8e4m3) dot_S512x256_S512x256_S512x512_1_1_0_0_n_n none (shapeCast S512x256 a h1)
      (shapeCast S512x256 (View.readAt (Elt Ideal) arg3.view (Rect.unit (s := S3072x8192) ![n0, o] S512x256.size inb').toLoadRect (harg3.unread W)) h2)
      (constant S512x512 .f32 0x00000000#32) (ix2 r n) = ∑ t ∈ Finset.range 256, term G W r (n0 + n) (o + t) := by
  have hn : n0 + 512 ≤ 3072 := inb' 0
  have hk : o + 256 ≤ 8192 := inb' 1
  pointwise
  rw [Finset.sum_range]
  refine Finset.sum_congr rfl fun k _ => ?_
  rw [Memref.IsWhole.readAt_unread, ha]
  unfold term
  rw [dif_pos ⟨by omega, by omega⟩]
  refine congr (congrArg HMul.hMul (congrArg G ?_)) (congrArg W ?_)
  · funext d
    match d with
    | 0 => exact Fin.ext (show 0 + 1 * r.val = r.val by omega)
    | 1 => exact Fin.ext (show o + 1 * k.val = o + k.val by omega)
  · funext d
    match d with
    | 0 => exact Fin.ext (show n0 + 1 * n.val = n0 + n.val by omega)
    | 1 => exact Fin.ext (show o + 1 * k.val = o + k.val by omega)

/-- The first chunk. -/
theorem acc_first {inb : ∀ d, (![0, 0] : Fin 2 → ℕ) d + S512x256.size d ≤ S512x8192.size d}
    {inb' : ∀ d, (![n0, 0] : Fin 2 → ℕ) d + S512x256.size d ≤ S3072x8192.size d}
    (ha : ∀ x : S512x256.Idx, a x = G ((Rect.unit (s := S512x8192) ![0, 0] S512x256.size inb).emb x)) :
    Acc G W n0 256 (matmul (F := Ideal) (φ₁ := .fp8e5m2) (φ₂ := .fp8e4m3) dot_S512x256_S512x256_S512x512_1_1_0_0_n_n none (shapeCast S512x256 a h1)
      (shapeCast S512x256 (View.readAt (Elt Ideal) arg3.view (Rect.unit (s := S3072x8192) ![n0, 0] S512x256.size inb').toLoadRect (harg3.unread W)) h2)
      (constant S512x512 .f32 0x00000000#32)) := by
  intro r n
  rw [part_apply ha]
  simp only [Nat.zero_add]

/-- One more chunk. -/
theorem acc_step (hA : Acc G W n0 o A) (ha : ∀ x : S512x256.Idx, a x = G ((Rect.unit (s := S512x8192) ![0, o] S512x256.size inb).emb x)) :
    Acc G W n0 (o + 256) (addf A (matmul (F := Ideal) (φ₁ := .fp8e5m2) (φ₂ := .fp8e4m3) dot_S512x256_S512x256_S512x512_1_1_0_0_n_n none (shapeCast S512x256 a h1)
      (shapeCast S512x256 (View.readAt (Elt Ideal) arg3.view (Rect.unit (s := S3072x8192) ![n0, o] S512x256.size inb').toLoadRect (harg3.unread W)) h2)
      (constant S512x512 .f32 0x00000000#32))) := by
  intro r n
  show A (ix2 r n) + _ = _
  rw [part_apply ha, hA r n, Finset.sum_range_add]

end

/-- The block of the result: row `y 1` of the codes against row `y 2` of the weights, rescaled by `s`. -/
def grad (G : Vec Ideal S512x8192 .fp8e5m2) (W : Vec Ideal S3072x8192 .fp8e4m3) (s : EReal) : Vec Ideal S1x512x3072 .bf16 := fun y =>
  (∑ k : Fin 8192, (show EReal from G (ix2 (y 1) k)) * (show EReal from W (ix2 (y 2) k))) * s

/-- 512 columns of the product, rescaled and stored, hold the result. -/
theorem out_piece {G : Vec Ideal S512x8192 .fp8e5m2} {W : Vec Ideal S3072x8192 .fp8e4m3} {n0 : ℕ} {A : FVec Ideal S512x512 .f32}
    {v3 : FVec Ideal S1x1 .f32} {inb : ∀ d, (![0, 0, n0] : Fin 3 → ℕ) d + S1x512x512.size d ≤ S1x512x3072.size d}
    {h1 : S1x1.Broadcasts S512x512} {h2} {h3 : S512x512.ShapeCasts S1x512x512} (hA : Acc G W n0 8192 A) (x : S1x512x512.Idx) :
    shapeCast S1x512x512 (truncf (F := Ideal) .bf16 (mulf A (broadcastTo S512x512 v3 h1)) h2) h3 x
      = grad G W (v3 (ix2 0 0)) ((Rect.unit (s := S1x512x3072) ![0, 0, n0] S1x512x512.size inb).emb x) := by
  have hn : n0 + 512 ≤ 3072 := inb 2
  obtain ⟨i, r, n, rfl⟩ : ∃ i r n, x = ix3 i r n := ⟨_, _, _, eq_ix3 x⟩
  unfold grad
  pointwise
  rw [hA, Finset.sum_range]
  refine congrArg (· * _) (Finset.sum_congr rfl fun k _ => ?_)
  unfold term
  rw [dif_pos ⟨by omega, k.isLt⟩]
  refine congr (congrArg HMul.hMul (congrArg G ?_)) (congrArg W ?_)
  · funext d
    match d with
    | 0 => exact Fin.ext (show r.val = 0 + 1 * r.val by omega)
    | 1 => rfl
  · funext d
    match d with
    | 0 => exact Fin.ext (show n0 + n.val = n0 + 1 * n.val by omega)
    | 1 => rfl

end Cert.KernelIdeal.Own.K2

end
-- ==== Proof.Value.GradRun.lean ====
/- What the third kernel's run leaves in its two output blocks: the codes of its rows, and the rescaled product of the codes
   with the weights' codes. -/
module

public import proofs.«01_k».proof.Proof.Value.GradSteps
public import proofs.«01_k».proof.Proof.KernelIdeal.K2

@[expose] public section

set_option maxRecDepth 16384

noncomputable section

namespace Cert.KernelIdeal.Own.K2

open Cert.KernelIdeal Cert.KernelIdeal.Gen
open Idealize.SL.RA
open Idealize.ShloMosaic Idealize.ShloMosaic.TcCoe Idealize.ShloMosaic.Tactic
open Cert.Proof.Spec

variable (c : Dev nD) (arg1 : Memref sig .tc .vmem S8x128 .f32) (harg1 : arg1.IsWhole) (arg2 : Memref sig .tc .vmem S512x8192 .bf16)
  (harg2 : arg2.IsWhole) (arg3 : Memref sig .tc .vmem S3072x8192 .fp8e4m3) (harg3 : arg3.IsWhole)
  (arg5 : Memref sig .tc .vmem S512x8192 .fp8e5m2)
  (x0 : Vec Ideal S8x128 .f32) (x1 : Vec Ideal S512x8192 .bf16) (x2 : Vec Ideal S3072x8192 .fp8e4m3)

/-- The reciprocal scale the kernel reads. -/
abbrev inv : EReal := kernelRun2_A.sl.v1 (F := Ideal) c arg1 harg1 x0 (ix2 0 0)

/-- The 32 stores of the codes fill the block. -/
theorem filled : Filled (codes (inv c arg1 harg1 x0) x1) (kernelRun2_A.sl.H4_32 (F := Ideal) c arg1 harg1 arg2 harg2 x0 x1) 8192 := by
  iterate 32 refine filled_cons ?_ (chunk arg2 harg2 x1 _ _ _ _ _ _ _)
  exact filled_nil _

/-- The first 512 columns of the product: each chunk of codes is read back right after it is stored. -/
theorem acc0 : Acc (codes (inv c arg1 harg1 x0) x1) x2 0 8192
    (kernelRun2_A.sl.v546 (F := Ideal) c arg1 harg1 arg2 harg2 arg3 harg3 arg5 x0 x1 x2) := by
  iterate 31 refine acc_step ?_ (read_last arg5.view (chunk arg2 harg2 x1 _ _ _ _ _ _ _))
  exact acc_first (read_last arg5.view (chunk arg2 harg2 x1 _ _ _ _ _ _ _))

/-- The second 512 columns: the codes are read back from the filled block. -/
theorem acc1 : Acc (codes (inv c arg1 harg1 x0) x1) x2 512 8192
    (kernelRun2_A.sl.v743 (F := Ideal) c arg1 harg1 arg2 harg2 arg3 harg3 arg5 x0 x1 x2) := by
  have h := filled c arg1 harg1 arg2 harg2 x0 x1
  iterate 31 refine acc_step ?_ (read_filled h (by decide) arg5.view)
  exact acc_first (read_filled h (by decide) arg5.view)

/-- The third 512 columns: the codes are read back from the filled block. -/
theorem acc2 : Acc (codes (inv c arg1 harg1 x0) x1) x2 1024 8192
    (kernelRun2_A.sl.v940 (F := Ideal) c arg1 harg1 arg2 harg2 arg3 harg3 arg5 x0 x1 x2) := by
  have h := filled c arg1 harg1 arg2 harg2 x0 x1
  iterate 31 refine acc_step ?_ (read_filled h (by decide) arg5.view)
  exact acc_first (read_filled h (by decide) arg5.view)

/-- The fourth 512 columns: the codes are read back from the filled block. -/
theorem acc3 : Acc (codes (inv c arg1 harg1 x0) x1) x2 1536 8192
    (kernelRun2_A.sl.v1137 (F := Ideal) c arg1 harg1 arg2 harg2 arg3 harg3 arg5 x0 x1 x2) := by
  have h := filled c arg1 harg1 arg2 harg2 x0 x1
  iterate 31 refine acc_step ?_ (read_filled h (by decide) arg5.view)
  exact acc_first (read_filled h (by decide) arg5.view)

/-- The fifth 512 columns: the codes are read back from the filled block. -/
theorem acc4 : Acc (codes (inv c arg1 harg1 x0) x1) x2 2048 8192
    (kernelRun2_A.sl.v1334 (F := Ideal) c arg1 harg1 arg2 harg2 arg3 harg3 arg5 x0 x1 x2) := by
  have h := filled c arg1 harg1 arg2 harg2 x0 x1
  iterate 31 refine acc_step ?_ (read_filled h (by decide) arg5.view)
  exact acc_first (read_filled h (by decide) arg5.view)

/-- The last 512 columns, up to the last four chunks. -/
theorem acc5 : Acc (codes (inv c arg1 harg1 x0) x1) x2 2560 7168
    (kernelRun2_A.sl.v1507 (F := Ideal) c arg1 harg1 arg2 harg2 arg3 harg3 arg5 x0 x1 x2) := by
  have h := filled c arg1 harg1 arg2 harg2 x0 x1
  iterate 27 refine acc_step ?_ (read_filled h (by decide) arg5.view)
  exact acc_first (read_filled h (by decide) arg5.view)

section
variable {Ix : Type} [DecidableEq Ix] {U : Type} [URA U] {Lvl : Type} [Preorder Lvl] (𝒱₀ : Variants) (i : grid2.Coords)
  (arg4 : Memref sig .tc .vmem S1x512x3072 .bf16) (harg4 : arg4.IsWhole) (harg5 : arg5.IsWhole)

/-- The last 512 columns, rescaled: the codes are read back from the filled block. -/
theorem piece5 (x : S1x512x512.Idx) : k2_pay1 (F := Ideal) (kernelRun2_A.sl.v3 c arg1 harg1 x0)
    (kernelRun2_A.sl.r_4 c arg1 harg1 arg2 harg2 arg3 harg3 arg5 x0 x1 x2) (kernelRun2_A.sl.r_5 c arg1 harg1 arg2 harg2 arg5 x0 x1)
    (kernelRun2_A.sl.r_6 c arg3 harg3 x2) (kernelRun2_A.sl.v1520 c arg1 harg1 arg2 harg2 arg5 x0 x1)
    (View.readAt (Elt Ideal) arg3.view (Rect.unit (s := S3072x8192) ![2560, 7680] S512x256.size (by decide)).toLoadRect (harg3.unread x2))
    (kernelRun2_A.sl.v1526 c arg1 harg1 arg2 harg2 arg5 x0 x1)
    (View.readAt (Elt Ideal) arg3.view (Rect.unit (s := S3072x8192) ![2560, 7936] S512x256.size (by decide)).toLoadRect (harg3.unread x2)) x
    = grad (codes (inv c arg1 harg1 x0) x1) x2 (kernelRun2_A.sl.v3 (F := Ideal) c arg1 harg1 x0 (ix2 0 0))
      ((Rect.unit (s := S1x512x3072) ![0, 0, 2560] S1x512x512.size (by decide)).emb x) := by
  have h := filled c arg1 harg1 arg2 harg2 x0 x1
  unfold k2_pay1 kernelRun2_A.sl.r_4 kernelRun2_A.sl.r_5 k2_pay121 k2_pay122 kernelRun2_A.sl.r_6
  refine out_piece ?_ x
  iterate 4 refine acc_step ?_ (read_filled h (by decide) arg5.view)
  exact acc5 c arg1 harg1 arg2 harg2 arg3 harg3 arg5 x0 x1 x2

/-- The six stores of the result hold the rescaled product. -/
theorem agree_grad : Agree (grad (codes (inv c arg1 harg1 x0) x1) x2 (kernelRun2_A.sl.v3 (F := Ideal) c arg1 harg1 x0 (ix2 0 0)))
    (kernelRun2_A (Ix := Ix) (U := U) (Lvl := Lvl) 𝒱₀ c i arg1 harg1 arg2 harg2 arg3 harg3 arg4 harg4 arg5 harg5 x0 x1 x2).1 := by
  refine agree_cons ?_ ?_; swap
  · intro x; exact piece5 c arg1 harg1 arg2 harg2 arg3 harg3 arg5 x0 x1 x2 x
  refine agree_cons ?_ ?_; swap
  · intro x; exact out_piece (acc4 c arg1 harg1 arg2 harg2 arg3 harg3 arg5 x0 x1 x2) x
  refine agree_cons ?_ ?_; swap
  · intro x; exact out_piece (acc3 c arg1 harg1 arg2 harg2 arg3 harg3 arg5 x0 x1 x2) x
  refine agree_cons ?_ ?_; swap
  · intro x; exact out_piece (acc2 c arg1 harg1 arg2 harg2 arg3 harg3 arg5 x0 x1 x2) x
  refine agree_cons ?_ ?_; swap
  · intro x; exact out_piece (acc1 c arg1 harg1 arg2 harg2 arg3 harg3 arg5 x0 x1 x2) x
  refine agree_cons (agree_nil _) ?_
  intro x; exact out_piece (acc0 c arg1 harg1 arg2 harg2 arg3 harg3 arg5 x0 x1 x2) x

/-- The reciprocal scale is row 1 of the table. -/
theorem inv_eq : inv c arg1 harg1 x0 = x0 (ix2 1 0) := by
  show shapeCast S1x1 (View.readAt (Elt Ideal) arg1.view (Rect.unit (s := S8x128) ![1, 0] S1x1.size _).toLoadRect (harg1.unread x0)) _ (ix2 0 0) = _
  pointwise
  rw [Memref.IsWhole.readAt_unread]
  exact congrArg x0 (funext fun d => match d with | 0 => Fin.ext rfl | 1 => Fin.ext rfl)

/-- The rescaling factor is row 4 of the table. -/
theorem rescale_eq : kernelRun2_A.sl.v3 (F := Ideal) c arg1 harg1 x0 (ix2 0 0) = x0 (ix2 4 0) := by
  show shapeCast S1x1 (View.readAt (Elt Ideal) arg1.view (Rect.unit (s := S8x128) ![4, 0] S1x1.size _).toLoadRect (harg1.unread x0)) _ (ix2 0 0) = _
  pointwise
  rw [Memref.IsWhole.readAt_unread]
  exact congrArg x0 (funext fun d => match d with | 0 => Fin.ext rfl | 1 => Fin.ext rfl)

/-- The block of the result the kernel leaves. -/
theorem out3_eq : out2_A_3 (F := Ideal) (Ix := Ix) (U := U) (Lvl := Lvl) 𝒱₀ c i arg1 harg1 arg2 harg2 arg3 harg3 arg4 harg4 arg5 harg5 x0 x1 x2
    = grad (codes (x0 (ix2 1 0)) x1) x2 (x0 (ix2 4 0)) := by
  funext y
  unfold out2_A_3
  rw [View.read_writes_junk_eq_canon, ← inv_eq c arg1 harg1 x0, ← rescale_eq c arg1 harg1 x0]
  exact View.canon_apply_of_pieces _ _ (agree_grad (Ix := Ix) (U := U) (Lvl := Lvl) c arg1 harg1 arg2 harg2 arg3 harg3 arg5 x0 x1 x2 𝒱₀ i arg4 harg4 harg5) y
    (cover2_A_3 (Ix := Ix) (U := U) (Lvl := Lvl) 𝒱₀ c i arg1 harg1 arg2 harg2 arg3 harg3 arg4 harg4 arg5 harg5 x0 x1 x2 y)

/-- The block of codes the kernel leaves. -/
theorem out4_eq : out2_A_4 (F := Ideal) (Ix := Ix) (U := U) (Lvl := Lvl) 𝒱₀ c i arg1 harg1 arg2 harg2 arg3 harg3 arg4 harg4 arg5 harg5 x0 x1 x2
    = codes (x0 (ix2 1 0)) x1 := by
  funext y
  unfold out2_A_4
  rw [View.read_writes_junk_eq_canon, ← inv_eq c arg1 harg1 x0]
  exact View.canon_apply_of_pieces _ _ (filled c arg1 harg1 arg2 harg2 x0 x1).1 y ((filled c arg1 harg1 arg2 harg2 x0 x1).2 y (y 1).isLt)

end

end Cert.KernelIdeal.Own.K2

end
-- ==== Proof.Value.GradArrays.lean ====
/- The arrays the third kernel leaves: the rescaled product and the codes. -/
module

public import proofs.«01_k».proof.Proof.Value.GradRun

@[expose] public section

set_option maxRecDepth 16384

noncomputable section

namespace Cert.KernelIdeal.Own.K2

open Cert.KernelIdeal Cert.KernelIdeal.Gen
open Idealize.SL.RA
open Idealize.ShloMosaic Idealize.ShloMosaic.TcCoe Idealize.ShloMosaic.Tactic
open Idealize.ShloMosaic.Pipeline (Dat)
open Cert.Proof.Spec

variable {Ix : Type} [DecidableEq Ix] {U : Type} [URA U] {Lvl : Type} [Preorder Lvl] (𝒱₀ : Variants)

/-- The block index of each window at a grid point. -/
theorem idx : ∀ t : Fin cfg2.N, win2_0.index t = ![0, 0] ∧ win2_1.index t = ![(t : ℕ), 0] ∧ win2_2.index t = ![0, 0]
    ∧ win2_3.index t = ![(t : ℕ) / 4, (t : ℕ) % 4, 0] ∧ win2_4.index t = ![(t : ℕ), 0] :=
  (by decide +kernel : ∀ t : Fin grid2.N, _)

variable (V : (c : Dev nD) → (b : Ref sig .tc) → Buf (Elt Ideal) ((c : Thread nD τ).loc b)) (D : Dev nD → CellTallies nD τ sig Ix) (c : Dev nD)
  (T : Vec Ideal S8x128 .f32) (X : Vec Ideal S8192x8192 .bf16) (W : Vec Ideal S3072x8192 .fp8e4m3)

/-- The table is read whole at every grid point. -/
theorem iblk0 (hT : V c (Pipeline.arrRef spec2 0) = T) (t : Fin cfg2.N) : iblk V c 0 t = T := by
  funext y
  unfold iblk
  rw [hT]
  blk_point [idx t]

/-- The codes of the second argument are read whole at every grid point. -/
theorem iblk2 (hW : V c (Pipeline.arrRef spec2 2) = W) (t : Fin cfg2.N) : iblk V c 2 t = W := by
  funext y
  unfold iblk
  rw [hW]
  blk_point [idx t]

/-- The array of codes after the last grid point. -/
theorem arr4 (hT : V c (Pipeline.arrRef spec2 0) = T) (hX : V c (Pipeline.arrRef spec2 1) = X) :
    (dat (Ix := Ix) (U := U) (Lvl := Lvl) 𝒱₀ V D c).arrAt 4 cfg2.N = fun i => code 0xC7600000#32 0x47600000#32 (T (ix2 1 0)) (X i) := by
  refine Dat.arrAt_eq_of_covers (cfg := cfg2) (dat (Ix := Ix) (U := U) (Lvl := Lvl) 𝒱₀ V D c) 4
    (fun i : S8192x8192.Idx => code 0xC7600000#32 0x47600000#32 (T (ix2 1 0)) (X i)) (by decide +kernel) fun t _ y => ?_
  blk_simp
  rw [after2_4]
  unfold outsAt2
  dsimp only
  rw [out4_eq, iblk0 V c T hT]
  unfold codes iblk
  rw [hX]
  blk_point [idx t]

/-- The rescaled product after the last grid point. -/
theorem arr3 (hT : V c (Pipeline.arrRef spec2 0) = T) (hX : V c (Pipeline.arrRef spec2 1) = X) (hW : V c (Pipeline.arrRef spec2 2) = W) :
    (dat (Ix := Ix) (U := U) (Lvl := Lvl) 𝒱₀ V D c).arrAt 3 cfg2.N = fun j : S4x2048x3072.Idx =>
      (∑ k : Fin 8192, code 0xC7600000#32 0x47600000#32 (T (ix2 1 0))
          (X (ix2 ⟨(j 0).val * 2048 + (j 1).val, by have h0 : (j 0).val < 4 := (j 0).isLt; have h1 : (j 1).val < 2048 := (j 1).isLt; omega⟩ k))
        * (show EReal from W (ix2 (j 2) k))) * T (ix2 4 0) := by
  refine Dat.arrAt_eq_of_covers (cfg := cfg2) (dat (Ix := Ix) (U := U) (Lvl := Lvl) 𝒱₀ V D c) 3
    (fun j : S4x2048x3072.Idx =>
      (∑ k : Fin 8192, code 0xC7600000#32 0x47600000#32 (T (ix2 1 0))
          (X (ix2 ⟨(j 0).val * 2048 + (j 1).val, by have h0 : (j 0).val < 4 := (j 0).isLt; have h1 : (j 1).val < 2048 := (j 1).isLt; omega⟩ k))
        * (show EReal from W (ix2 (j 2) k))) * T (ix2 4 0)) (by decide +kernel) fun t _ y => ?_
  blk_simp
  rw [after2_3]
  unfold outsAt2
  dsimp only
  rw [out3_eq, iblk0 V c T hT, iblk2 V c W hW]
  unfold grad codes iblk
  rw [hX]
  refine congrArg (· * _) (Finset.sum_congr rfl fun k _ => ?_)
  refine congr (congrArg HMul.hMul (congrArg (code _ _ _) ?_)) (congrArg W ?_)
  · blk_point [idx t]
  · refine congrArg (ix2 · k) (Fin.ext ?_)
    blk_simp
    rw [(idx t).2.2.2.1]
    show _ = 0 * 3072 + _
    omega

end Cert.KernelIdeal.Own.K2

end
-- ==== Proof.Value.KernelRun.lean ====
/- The run of the idealized kernel, its five results stated by the mathematics of `Spec`. -/
module

public import proofs.«01_k».proof.Proof.KernelIdeal.Regions
public import proofs.«01_k».proof.Proof.Value.Amax
public import proofs.«01_k».proof.Proof.Value.Quant
public import proofs.«01_k».proof.Proof.Value.GradArrays

@[expose] public section

set_option maxRecDepth 16384

noncomputable section

namespace Cert.KernelIdeal.Own

open Idealize.ShloMosaic Idealize.ShloMosaic.TcCoe Idealize.ShloMosaic.Tactic Idealize.SL.Sem
open Idealize.ShloMosaic.Pipeline (Dat)
open Cert.KernelIdeal Cert.KernelIdeal.Gen
open Cert.Proof.Spec

variable (m : (ℓ : Loc nD τ sig) → Buf (Elt Ideal) ℓ) (ρ : Dev nD → PrngReg) (c : Dev nD)

/-- The first argument. -/
abbrev xa : FVec Ideal S4x2048x8192 .bf16 := m ((c : Thread nD τ).loc main_arg0)
/-- The second argument. -/
abbrev wa : FVec Ideal S3072x8192 .f32 := m ((c : Thread nD τ).loc main_arg1)
/-- The first argument with its two leading axes merged. -/
def xf : Vec Ideal S8192x8192 .bf16 := shapeCast S8192x8192 (xa m c) shapeCasts_S4x2048x8192_S8192x8192

/-- An entry of the merged argument. -/
theorem xf_apply (j0 : Fin 4) (j1 : Fin 2048) (k : Fin 8192) (h : (j0 : ℕ) * 2048 + j1 < 8192) :
    xf m c (ix2 ⟨j0 * 2048 + j1, h⟩ k) = xa m c (ix3 j0 j1 k) := by
  unfold xf
  pointwise

/-- Merging axes does not change the largest absolute value. -/
theorem amax_xf : (⨆ i, K0.abs' .bf16 (xf m c i)) = amaxX (xa m c) := by
  refine eq_of_forall_ge_iff fun C => ?_
  unfold amaxX
  rw [iSup_le_iff]
  refine Iff.trans ?_ iSup_le_iff.symm
  exact K0.forall_shapeCast (xa m c) shapeCasts_S4x2048x8192_S8192x8192 (by decide) fun v => K0.abs' .bf16 v ≤ C

/-- The host's reshape of the first argument. -/
theorem V_v0 : V1 m c (Proc.devRef .tc main_v0) = xf m c := by
  show StableHlo.after hostOps0 _ (Proc.devRef .tc main_v0) = _
  after_results_simp
  after_results_loop
  rfl

/-- The second argument is as launched when the first kernel is entered. -/
theorem V_arg1 : V1 m c (Proc.devRef .tc main_arg1) = wa m c := V1_of m c main_arg1 (by decide)

/-- The rows of the table the first kernel leaves. -/
theorem table (T : Vec Ideal S8x128 .f32) (hT : o1 m c = T) :
    T (ix2 0 0) = scaleX (xa m c) ∧ T (ix2 1 0) = dn 0x37924925#32 (amaxX (xa m c))
    ∧ T (ix2 2 0) = scaleW (wa m c) ∧ T (ix2 3 0) = dn 0x3B124925#32 (amaxW (wa m c))
    ∧ T (ix2 4 0) = scaleX (xa m c) * scaleW (wa m c) := by
  have h := K0.rows (Ve0 m) c (xf m c) (wa m c) (V_v0 m c) (V_arg1 m c) T hT
  rw [amax_xf] at h
  exact h

/-- The codes of the second argument. -/
theorem o2_eq : o2 m c = codeW (wa m c) := by
  have h := K1.arr2 (Ix := Unit) (U := UR sig nD τ) (Lvl := ℕ) Variants.none (We1 m) (fun _ => 0) c (o1 m c) (wa m c)
    (V2_at_main_v1 m c) ((W2_of m c main_arg1 (by decide)).trans (V_arg1 m c))
  refine h.trans ?_
  rw [(table m c _ rfl).2.2.2.1]
  rfl

/-- The table when the third kernel is entered. -/
theorem We2_v1 : We2 m c (Pipeline.arrRef spec2 0) = o1 m c := (W3_of m c main_v1 (by decide)).trans (V2_at_main_v1 m c)
/-- The merged first argument when the third kernel is entered. -/
theorem We2_v0 : We2 m c (Pipeline.arrRef spec2 1) = xf m c :=
  (W3_of m c main_v0 (by decide)).trans ((W2_of m c main_v0 (by decide)).trans (V_v0 m c))
/-- The codes of the second argument when the third kernel is entered. -/
theorem We2_v2 : We2 m c (Pipeline.arrRef spec2 2) = codeW (wa m c) := (V3_at_main_v2 m c).trans (o2_eq m c)

/-- The codes of the merged first argument. -/
theorem o4_eq : o4 m c = fun i : S8192x8192.Idx => code 0xC7600000#32 0x47600000#32 (dn 0x37924925#32 (amaxX (xa m c))) (xf m c i) := by
  have h := K2.arr4 (Ix := Unit) (U := UR sig nD τ) (Lvl := ℕ) Variants.none (We2 m) (fun _ => 0) c (o1 m c) (xf m c)
    (We2_v1 m c) (We2_v0 m c)
  refine h.trans ?_
  rw [(table m c _ rfl).2.1]

/-- The rescaled product. -/
theorem o3_eq : o3 m c = prod (xa m c) (wa m c) := by
  have h := K2.arr3 (Ix := Unit) (U := UR sig nD τ) (Lvl := ℕ) Variants.none (We2 m) (fun _ => 0) c (o1 m c) (xf m c) (codeW (wa m c))
    (We2_v1 m c) (We2_v0 m c) (We2_v2 m c)
  refine h.trans ?_
  rw [(table m c _ rfl).2.1, (table m c _ rfl).2.2.2.2]
  funext j
  unfold prod
  refine congrArg (· * _) (Finset.sum_congr rfl fun k _ => ?_)
  have e := xf_apply m c (j 0) (j 1) k (by have h0 : (j 0).val < 4 := (j 0).isLt; have h1 : (j 1).val < 2048 := (j 1).isLt; omega)
  exact congrArg (fun v : EReal => code 0xC7600000#32 0x47600000#32 (dn 0x37924925#32 (amaxX (xa m c))) v
    * (show EReal from codeW (wa m c) (ix2 (j 2) k))) e

/-- The contents before the last host operations: the table. -/
theorem V4_v1 : V4 m (outs m) c (Proc.devRef .tc main_v1) = o1 m c := by
  rw [V4_eq]
  exact (W4_of m c main_v1 (by decide)).trans (We2_v1 m c)

/-- The first result: the rescaled product. -/
theorem V5_v3_0 : V5 m (outs m) c (Proc.devRef .tc main_v3_0) = prod (xa m c) (wa m c) := by
  refine (V5_of m (outs m) c main_v3_0 (by decide)).trans ?_
  rw [V4_eq]
  exact (V4_at_main_v3_0 m c).trans (o3_eq m c)

/-- The fourth result: the codes of the second argument. -/
theorem V5_v2 : V5 m (outs m) c (Proc.devRef .tc main_v2) = codeW (wa m c) := by
  refine (V5_of m (outs m) c main_v2 (by decide)).trans ?_
  rw [V4_eq]
  exact (W4_of m c main_v2 (by decide)).trans (We2_v2 m c)

/-- The second result: the codes of the first argument. -/
theorem V5_v4 : V5 m (outs m) c (Proc.devRef .tc main_v4) = codeX (xa m c) := by
  show StableHlo.after hostOps3 _ (Proc.devRef .tc main_v4) = _
  after_results_simp
  after_results_loop
  rw [V4_eq, V4_at_main_v3_1, o4_eq]
  funext j
  idx_vars j
  pointwise
  rw [xf_apply]
  rfl

/-- The third result: the scale of the first argument. -/
theorem V5_v6 : V5 m (outs m) c (Proc.devRef .tc main_v6) = fun _ => scaleX (xa m c) := by
  show StableHlo.after hostOps3 _ (Proc.devRef .tc main_v6) = _
  after_results_simp
  after_results_loop
  rw [V4_v1]
  funext j
  rw [← (table m c _ rfl).1]
  pointwise

/-- The fifth result: the scale of the second argument. -/
theorem V5_v8 : V5 m (outs m) c (Proc.devRef .tc main_v8) = fun _ => scaleW (wa m c) := by
  show StableHlo.after hostOps3 _ (Proc.devRef .tc main_v8) = _
  after_results_simp
  after_results_loop
  rw [V4_v1]
  funext j
  rw [← (table m c _ rfl).2.2.1]
  pointwise

/-- The run: the five results of the idealized kernel, and its arguments as launched. -/
theorem value_run : θ_run defs (onTc (τ := τ) (main (F := Ideal))) ⟨m, fun _ => 0, ρ⟩ (fun r => ∀ c : Dev nD,
      r.2.mem ((c.tc : Thread nD τ).loc main_v3_0) = prod (m ((c.tc : Thread nD τ).loc main_arg0)) (m ((c.tc : Thread nD τ).loc main_arg1))
      ∧ r.2.mem ((c.tc : Thread nD τ).loc main_v4) = codeX (m ((c.tc : Thread nD τ).loc main_arg0))
      ∧ r.2.mem ((c.tc : Thread nD τ).loc main_v6) = (fun _ => scaleX (m ((c.tc : Thread nD τ).loc main_arg0)))
      ∧ r.2.mem ((c.tc : Thread nD τ).loc main_v2) = codeW (m ((c.tc : Thread nD τ).loc main_arg1))
      ∧ r.2.mem ((c.tc : Thread nD τ).loc main_v8) = (fun _ => scaleW (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h.1 c _ (mem_uc main_v3_0 (by decide))).trans (V5_v3_0 m c), (h.1 c _ (mem_uc main_v4 (by decide))).trans (V5_v4 m c),
      (h.1 c _ (mem_uc main_v6 (by decide))).trans (V5_v6 m c), (h.1 c _ (mem_uc main_v2 (by decide))).trans (V5_v2 m c),
      (h.1 c _ (mem_uc main_v8 (by decide))).trans (V5_v8 m c), (h.1 c _ (mem_uc main_arg0 (by decide))).trans (V5_main_arg0 m (outs m) c),
      (h.1 c _ (mem_uc main_arg1 (by decide))).trans (V5_main_arg1 m (outs m) c)⟩) (run m ρ)

end Cert.KernelIdeal.Own

end
-- ==== Proof.Value.Reference.lean ====
/- What the reference leaves in its five result buffers, over the extended reals. -/
module

public import proofs.«01_k».proof.Proof.Value.Spec
public import proofs.«01_k».proof.Proof.Gen.ReferenceIdeal.Frame
public import Idealize.ShloMosaic.Lib.Claim
public import Idealize.ShloMosaic.Lib.ValueIdx
public import Idealize.ShloMosaic.Lib.Pipeline.Value

@[expose] public section

set_option maxRecDepth 16384

noncomputable section

namespace Cert.ReferenceIdeal.Own

open Idealize.ShloMosaic Idealize.ShloMosaic.TcCoe Idealize.ShloMosaic.Tactic Idealize.SL.Sem
open Idealize.ShloMosaic.Pipeline (Dat)
open Cert.ReferenceIdeal Cert.ReferenceIdeal.Gen
open Cert.Proof.Spec

variable (m : (ℓ : Loc nD τ sig) → Buf (Elt Ideal) ℓ)

/-- The word the maximum starts from is minus infinity. -/
theorem ofBits_ninf : (Ideal.ofBits .f32 0xFF800000#32 : EReal) = ⊥ := by
  simp [Ideal.ofBits, Ideal.ieee]

/-- A maximum over all the entries, started from minus infinity, is their supremum. -/
theorem hostMax_eq {s : Shape} {axes : List (Fin s.rank)} (x : FVec Ideal s .f32) (h : s.ReducesTo axes S_) (hu : 0 < S_.numel) (j) :
    Host.reduce FloatOps.maximumf x (constant S_ .f32 0xFF800000#32) h hu j = (⨆ i, (show EReal from x i) : EReal) := by
  rw [Host.reduce_eq_fold]
  refine eq_of_forall_ge_iff fun c => ?_
  refine (Finset.fold_max_le c).trans ?_
  rw [iSup_le_iff]
  constructor
  · exact fun hh i => hh.2 i (Finset.mem_filter.mpr ⟨Finset.mem_univ _, funext fun k => k.elim0⟩)
  · exact fun hh => ⟨by
      show (Ideal.ofBits .f32 0xFF800000#32 : EReal) ≤ c
      rw [ofBits_ninf]; exact bot_le, fun i _ => hh i⟩

/-- The host's maximum of the absolute values of the first argument. -/
theorem V_v5 (c : Dev nD) (j) : (V m c main_v5 : FVec Ideal S1x1 .f32) j = amaxX (m ((c : Thread nD τ).loc main_arg0)) := by
  show (StableHlo.after hostOps0 (fun b => m (c, b)) (Proc.devRef .tc main_v5) : FVec Ideal S1x1 .f32) j = _
  after_results_simp
  after_results_loop
  exact hostMax_eq _ _ _ _

/-- The host's maximum of the absolute values of the second argument. -/
theorem V_v6 (c : Dev nD) (j) : (V m c main_v6 : FVec Ideal S1x1 .f32) j = amaxW (m ((c : Thread nD τ).loc main_arg1)) := by
  show (StableHlo.after hostOps0 (fun b => m (c, b)) (Proc.devRef .tc main_v6) : FVec Ideal S1x1 .f32) j = _
  entry_read
  exact hostMax_eq _ _ _ _

/-- The renamed constant reads as the reciprocal of the logarithm of 2. -/
theorem named_log2e : (Named.named κ "log2_e" 0x3FB8AA3B#32 : Ideal .f32) = log2e :=
  IdealRules.named_const.ideal_named_scalar _ _ _ _ rfl

/-- The exponent of the scale of `dy`. -/
theorem pay5_apply (v0 : Vec Ideal S1x1 .f32) (j) : k0_pay5 v0 j = expo 0x37924925#32 (v0 j) := by
  unfold k0_pay5 expo
  rw [← named_log2e]
  simp only [shapeCast_self]
  rfl

/-- The exponent of the scale of `w`. -/
theorem pay7_apply (v0 : Vec Ideal S1x1 .f32) (j) : k0_pay7 v0 j = expo 0x3B124925#32 (v0 j) := by
  unfold k0_pay7 expo
  rw [← named_log2e]
  simp only [shapeCast_self]
  rfl

/-- The scale of the first argument. -/
theorem pay6_apply (v0 : Vec Ideal S1x1 .f32) (j) : k0_pay6 v0 j = up 0x37924925#32 (v0 j) := by
  unfold up; rw [← pay5_apply]; rfl

/-- The scale of the second argument. -/
theorem pay8_apply (v0 : Vec Ideal S1x1 .f32) (j) : k0_pay8 v0 j = up 0x3B124925#32 (v0 j) := by
  unfold up; rw [← pay7_apply]; rfl

/-- The reciprocal of the scale of the second argument. -/
theorem pay9_apply (v0 : Vec Ideal S1x1 .f32) (j) : k0_pay9 v0 j = dn 0x3B124925#32 (v0 j) := by
  unfold dn; rw [← pay7_apply]; rfl

/-- The first argument, its leading axes merged, times its reciprocal scale. -/
theorem pay10_apply (v0 : Vec Ideal S1x1 .f32) (v36 : Vec Ideal S4x2048x8192 .bf16) (a k : Fin 8192) :
    k0_pay10 v0 v36 (ix2 a k) = (show EReal from shapeCast S8192x8192 v36 shapeCasts_S4x2048x8192_S8192x8192 (ix2 a k))
      * dn 0x37924925#32 (v0 (ix2 0 0)) := by
  unfold dn; rw [← pay5_apply]
  unfold k0_pay10
  pointwise

/-- The codes of the second argument. -/
theorem pay2_apply (v35 : FVec Ideal S1x1 .f32) (v46 : Vec Ideal S3072x8192 .f32) (n : Fin 3072) (k : Fin 8192) :
    k0_pay2 v35 v46 (ix2 n k) = code 0xC3E00000#32 0x43E00000#32 (v35 (ix2 0 0)) (v46 (ix2 n k)) := by
  unfold k0_pay2 code
  pointwise

/-- Clipping an entry. -/
theorem pay1_apply (v40 : FVec Ideal S8192x8192 .f32) (i) :
    k0_pay1 v40 i = min (Ideal.ofBits .f32 0x47600000#32) (max (Ideal.ofBits .f32 0xC7600000#32) (v40 i)) := rfl

/-- An entry of the first argument with its leading axes merged. -/
theorem row_split (v36 : Vec Ideal S4x2048x8192 .bf16) (j0 : Fin 4) (j1 : Fin 2048) (k : Fin 8192)
    (h : (j0 : ℕ) * 2048 + j1 < 8192) :
    shapeCast S8192x8192 v36 shapeCasts_S4x2048x8192_S8192x8192 (ix2 ⟨j0 * 2048 + j1, h⟩ k) = v36 (ix3 j0 j1 k) := by
  pointwise

/-- The codes of the first argument. -/
theorem pay4_apply (v0 : Vec Ideal S1x1 .f32) (v36 : Vec Ideal S4x2048x8192 .bf16) (j) :
    k0_pay4 (k0_pay10 v0 v36) j = code 0xC7600000#32 0x47600000#32 (dn 0x37924925#32 (v0 (ix2 0 0))) (v36 j) := by
  unfold k0_pay4
  idx_vars j
  pointwise
  rw [pay1_apply, pay10_apply, row_split]
  rfl

/-- The product of the codes, rescaled. -/
theorem pay3_apply (v14 v32 v35 : FVec Ideal S1x1 .f32) (v0 : Vec Ideal S1x1 .f32) (v36 : Vec Ideal S4x2048x8192 .bf16) (v46 : Vec Ideal S3072x8192 .f32)
    (j0 : Fin 4) (j1 : Fin 2048) (j2 : Fin 3072) :
    k0_pay3 v14 v32 v35 (k0_pay10 v0 v36) v46 (ix3 j0 j1 j2) =
      (∑ k : Fin 8192, code 0xC7600000#32 0x47600000#32 (dn 0x37924925#32 (v0 (ix2 0 0))) (v36 (ix3 j0 j1 k))
        * code 0xC3E00000#32 0x43E00000#32 (v35 (ix2 0 0)) (v46 (ix2 j2 k)) : EReal) * ((v14 (ix2 0 0) : EReal) * v32 (ix2 0 0)) := by
  unfold k0_pay3
  pointwise
  refine congrArg (· * _) (Finset.sum_congr rfl fun k _ => ?_)
  rw [pay1_apply, pay10_apply, row_split, pay2_apply]
  rfl

/-! ## The result arrays -/

/-- Every window of the one grid point starts at the origin. -/
theorem idx : ∀ t : Fin cfg0.N, win0_0.index t = ![0, 0] ∧ win0_1.index t = ![0, 0] ∧ win0_2.index t = ![0, 0, 0] ∧ win0_3.index t = ![0, 0] :=
  (by decide +kernel : ∀ t : Fin grid0.N, _)

/-- The block of the first argument is the argument. -/
theorem iblk2 (c : Dev nD) (j) : (iblk m c 2 t0_0 : Vec Ideal S4x2048x8192 .bf16) j = m ((c : Thread nD τ).loc main_arg0) j := by
  unfold iblk
  rw [show V m c (Pipeline.arrRef spec0 2) = m ((c : Thread nD τ).loc main_arg0) from V_main_arg0 m c]
  blk_point [idx t0_0]

/-- The block of the second argument is the argument. -/
theorem iblk3 (c : Dev nD) (j) : (iblk m c 3 t0_0 : Vec Ideal S3072x8192 .f32) j = m ((c : Thread nD τ).loc main_arg1) j := by
  unfold iblk
  rw [show V m c (Pipeline.arrRef spec0 3) = m ((c : Thread nD τ).loc main_arg1) from V_main_arg1 m c]
  blk_point [idx t0_0]

/-- The block of the first maximum is that maximum. -/
theorem iblk0 (c : Dev nD) (j) : (iblk m c 0 t0_0 : Vec Ideal S1x1 .f32) j = amaxX (m ((c : Thread nD τ).loc main_arg0)) := by
  unfold iblk
  rw [show V m c (Pipeline.arrRef spec0 0) = (fun _ => amaxX (m ((c : Thread nD τ).loc main_arg0))) from funext (V_v5 m c)]
  rfl

/-- The block of the second maximum is that maximum. -/
theorem iblk1 (c : Dev nD) (j) : (iblk m c 1 t0_0 : Vec Ideal S1x1 .f32) j = amaxW (m ((c : Thread nD τ).loc main_arg1)) := by
  unfold iblk
  rw [show V m c (Pipeline.arrRef spec0 1) = (fun _ => amaxW (m ((c : Thread nD τ).loc main_arg1))) from funext (V_v6 m c)]
  rfl

section
variable (x0 x1 : Vec Ideal S1x1 .f32) (x2 : Vec Ideal S4x2048x8192 .bf16) (x3 : Vec Ideal S3072x8192 .f32)

/-- A value named twice in the body, read once. -/
theorem pay11_eq : k0_pay11 x0 x1 x2 x3 = k0_pay6 x0 := by
  unfold k0_pay11 r0_0; rw [View.ld_unit_lit _ _ (by decide)]
/-- A value named twice in the body, read once. -/
theorem pay12_eq : k0_pay12 x0 x1 x2 x3 = k0_pay8 x1 := by
  unfold k0_pay12 r0_0; rw [View.ld_unit_lit _ _ (by decide)]
/-- A value named twice in the body, read once. -/
theorem pay13_eq : k0_pay13 x0 x1 x2 x3 = k0_pay9 x1 := by
  unfold k0_pay13 r0_0; rw [View.ld_unit_lit _ _ (by decide)]
/-- A value named twice in the body, read once. -/
theorem pay14_eq : k0_pay14 x0 x1 x2 x3 = k0_pay10 x0 x2 := by
  unfold k0_pay14 r0_0 r0_1; rw [View.ld_unit_lit _ _ (by decide), View.ld_unit_lit _ _ (by decide)]
/-- What the body stores for the product. -/
theorem out4_eq : out0_4 x0 x1 x2 x3 = k0_pay3 (k0_pay6 x0) (k0_pay8 x1) (k0_pay9 x1) (k0_pay10 x0 x2) x3 := by
  unfold out0_4 r0_2 r0_3
  rw [pay11_eq, pay12_eq, pay13_eq, pay14_eq, View.ld_unit_lit _ _ (by decide), View.canon_cons_unit_lit _ _ _ (by decide)]
/-- What the body stores for the codes of the first argument. -/
theorem out5_eq : out0_5 x0 x1 x2 x3 = k0_pay4 (k0_pay10 x0 x2) := by
  unfold out0_5 r0_1
  rw [pay14_eq, View.canon_cons_unit_lit _ _ _ (by decide)]
/-- What the body stores for the scale of the first argument. -/
theorem out6_eq : out0_6 x0 x1 x2 x3 = k0_pay6 x0 := by
  unfold out0_6 r0_0
  rw [pay11_eq, View.canon_cons_unit_lit _ _ _ (by decide)]
/-- What the body stores for the codes of the second argument. -/
theorem out7_eq : out0_7 x0 x1 x2 x3 = k0_pay2 (k0_pay9 x1) x3 := by
  unfold out0_7 r0_2
  rw [pay13_eq, View.ld_unit_lit _ _ (by decide), View.canon_cons_unit_lit _ _ _ (by decide)]
/-- What the body stores for the scale of the second argument. -/
theorem out8_eq : out0_8 x0 x1 x2 x3 = k0_pay8 x1 := by
  unfold out0_8 r0_0
  rw [pay12_eq, View.canon_cons_unit_lit _ _ _ (by decide)]

variable (X : FVec Ideal S4x2048x8192 .bf16) (W : FVec Ideal S3072x8192 .f32)
  (h0 : ∀ j, x0 j = amaxX X) (h1 : ∀ j, x1 j = amaxW W) (h2 : ∀ j, x2 j = X j) (h3 : ∀ j, x3 j = W j)
include h0 h1 h2 h3

/-- What the body stores for the scale of the first argument, by the mathematics of `Spec`. -/
theorem out6_val (j) : out0_6 x0 x1 x2 x3 j = scaleX X := by
  rw [out6_eq, pay6_apply, h0]; rfl
/-- What the body stores for the scale of the second argument, by the mathematics of `Spec`. -/
theorem out8_val (j) : out0_8 x0 x1 x2 x3 j = scaleW W := by
  rw [out8_eq, pay8_apply, h1]; rfl
/-- What the body stores for the codes of the first argument, by the mathematics of `Spec`. -/
theorem out5_val (j) : out0_5 x0 x1 x2 x3 j = codeX X j := by
  rw [out5_eq, pay4_apply, h0, h2]; rfl
/-- What the body stores for the codes of the second argument, by the mathematics of `Spec`. -/
theorem out7_val (j) : out0_7 x0 x1 x2 x3 j = codeW W j := by
  obtain ⟨n, k, rfl⟩ : ∃ n k, j = ix2 n k := ⟨_, _, eq_ix2 j⟩
  rw [out7_eq, pay2_apply, pay9_apply, h1, h3]; rfl
/-- What the body stores for the product, by the mathematics of `Spec`. -/
theorem out4_val (j) : out0_4 x0 x1 x2 x3 j = prod X W j := by
  obtain ⟨a, b, n, rfl⟩ : ∃ a b n, j = ix3 a b n := ⟨_, _, _, eq_ix3 j⟩
  rw [out4_eq, pay3_apply]
  refine congr (congrArg HMul.hMul (Finset.sum_congr rfl fun k _ => ?_)) ?_
  · rw [pay9_apply, h0, h1, h2, h3]; rfl
  · rw [pay6_apply, pay8_apply, h0, h1]; rfl

end

/-- The array left for the scale of the first argument. -/
theorem arr6 (c : Dev nD) : (dats m 0 c).arrAt 6 cfg0.N = fun _ => scaleX (m ((c : Thread nD τ).loc main_arg0)) := by
  refine (dats m 0 c).arrAt_eq_of_after_last 6 t0_0 (by decide +kernel) _ fun j => ?_
  blk_simp
  rw [after0_6]
  exact out6_val _ _ _ _ _ _ (iblk0 m c) (iblk1 m c) (iblk2 m c) (iblk3 m c) _

/-- The array left for the scale of the second argument. -/
theorem arr8 (c : Dev nD) : (dats m 0 c).arrAt 8 cfg0.N = fun _ => scaleW (m ((c : Thread nD τ).loc main_arg1)) := by
  refine (dats m 0 c).arrAt_eq_of_after_last 8 t0_0 (by decide +kernel) _ fun j => ?_
  blk_simp
  rw [after0_8]
  exact out8_val _ _ _ _ _ _ (iblk0 m c) (iblk1 m c) (iblk2 m c) (iblk3 m c) _

/-- The array left for the codes of the second argument. -/
theorem arr7 (c : Dev nD) : (dats m 0 c).arrAt 7 cfg0.N = codeW (m ((c : Thread nD τ).loc main_arg1)) := by
  refine (dats m 0 c).arrAt_eq_of_after_last 7 t0_0 (by decide +kernel) _ fun j => ?_
  blk_simp
  rw [after0_7]
  exact out7_val _ _ _ _ _ _ (iblk0 m c) (iblk1 m c) (iblk2 m c) (iblk3 m c) _

/-- The array left for the codes of the first argument. -/
theorem arr5 (c : Dev nD) : (dats m 0 c).arrAt 5 cfg0.N = codeX (m ((c : Thread nD τ).loc main_arg0)) := by
  refine (dats m 0 c).arrAt_eq_of_after_last 5 t0_0 (by decide +kernel) _ fun j => ?_
  blk_simp
  rw [after0_5]
  exact out5_val _ _ _ _ _ _ (iblk0 m c) (iblk1 m c) (iblk2 m c) (iblk3 m c) _

/-- The array left for the product. -/
theorem arr4 (c : Dev nD) : (dats m 0 c).arrAt 4 cfg0.N = prod (m ((c : Thread nD τ).loc main_arg0)) (m ((c : Thread nD τ).loc main_arg1)) := by
  refine (dats m 0 c).arrAt_eq_of_after_last 4 t0_0 (by decide +kernel) _ fun j => ?_
  blk_simp
  rw [after0_4]
  exact out4_val _ _ _ _ _ _ (iblk0 m c) (iblk1 m c) (iblk2 m c) (iblk3 m c) _

end Cert.ReferenceIdeal.Own

end
-- ==== Proof.Value.ReferenceRun.lean ====
/- The run of the reference, its five results stated by the mathematics of `Spec`. -/
module

public import proofs.«01_k».proof.Proof.Value.Reference

@[expose] public section

set_option maxRecDepth 16384

noncomputable section

namespace Cert.ReferenceIdeal.Own

open Idealize.ShloMosaic Idealize.ShloMosaic.TcCoe Idealize.ShloMosaic.Tactic Idealize.SL.Sem
open Idealize.ShloMosaic.Pipeline (Dat)
open Cert.ReferenceIdeal Cert.ReferenceIdeal.Gen
open Cert.Proof.Spec

variable (m : (ℓ : Loc nD τ sig) → Buf (Elt Ideal) ℓ) (ρ : Dev nD → PrngReg)

/-- The host's reshape of the scale of the first argument. -/
theorem tail_v8 (c : Dev nD) :
    Pipeline.afterTail₀ cfgs (dats m) 0 (V0 m) [hostOps1] c main_v8 = fun _ => scaleX (m ((c : Thread nD τ).loc main_arg0)) := by
  unfold Pipeline.afterTail₀
  show StableHlo.after hostOps1 _ (Proc.devRef .tc main_v8) = _
  after_results_simp
  after_results_loop
  rw [show Pipeline.withArrays (cfgs 0).spec c (V0 m c) (fun w => (dats m 0 c).arrAt w (cfgs 0).N) (Proc.devRef .tc main_v7_2)
      = (dats m 0 c).arrAt 6 (cfgs 0).N from Pipeline.withArrays_arr (cfgs 0).spec (by decide) _ _ _ 6]
  rw [show (dats m 0 c).arrAt 6 (cfgs 0).N = _ from arr6 m c]
  rfl

/-- The host's reshape of the scale of the second argument. -/
theorem tail_v9 (c : Dev nD) :
    Pipeline.afterTail₀ cfgs (dats m) 0 (V0 m) [hostOps1] c main_v9 = fun _ => scaleW (m ((c : Thread nD τ).loc main_arg1)) := by
  unfold Pipeline.afterTail₀
  show StableHlo.after hostOps1 _ (Proc.devRef .tc main_v9) = _
  after_results_simp
  after_results_loop
  rw [show Pipeline.withArrays (cfgs 0).spec c (V0 m c) (fun w => (dats m 0 c).arrAt w (cfgs 0).N) (Proc.devRef .tc main_v7_4)
      = (dats m 0 c).arrAt 8 (cfgs 0).N from Pipeline.withArrays_arr (cfgs 0).spec (by decide) _ _ _ 8]
  rw [show (dats m 0 c).arrAt 8 (cfgs 0).N = _ from arr8 m c]
  rfl

/-- The run: the five results of the reference, and its arguments as launched. -/
theorem run : θ_run defs (onTc (τ := τ) (main (F := Ideal))) ⟨m, fun _ => 0, ρ⟩ (fun r => ∀ c : Dev nD,
      r.2.mem ((c.tc : Thread nD τ).loc main_v7_0) = prod (m ((c.tc : Thread nD τ).loc main_arg0)) (m ((c.tc : Thread nD τ).loc main_arg1))
      ∧ r.2.mem ((c.tc : Thread nD τ).loc main_v7_1) = codeX (m ((c.tc : Thread nD τ).loc main_arg0))
      ∧ r.2.mem ((c.tc : Thread nD τ).loc main_v8) = (fun _ => scaleX (m ((c.tc : Thread nD τ).loc main_arg0)))
      ∧ r.2.mem ((c.tc : Thread nD τ).loc main_v7_3) = codeW (m ((c.tc : Thread nD τ).loc main_arg1))
      ∧ r.2.mem ((c.tc : Thread nD τ).loc main_v9) = (fun _ => scaleW (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ)
  refine ⟨((h c).1 4).trans (arr4 m c), ((h c).1 5).trans (arr5 m c), ?_, ((h c).1 7).trans (arr7 m c), ?_,
    ((h c).1 2).trans (((dats m 0 c).arrAt_in 2 rfl _).trans ((A_eq m c 2).trans (V_main_arg0 m c))),
    ((h c).1 3).trans (((dats m 0 c).arrAt_in 3 rfl _).trans ((A_eq m c 3).trans (V_main_arg1 m c)))⟩
  · exact ((h c).2 main_v8 (Pipeline.mem_restRefs_of main_v8 (by decide) (by decide))).trans (tail_v8 m c)
  · exact ((h c).2 main_v9 (Pipeline.mem_restRefs_of main_v9 (by decide) (by decide))).trans (tail_v9 m c)

end Cert.ReferenceIdeal.Own

end
-- ==== Proof.lean ====
/- The certificate: the three programs run and end with every counter at zero, the one renamed constant is the one it
   stands for, and at the reals the kernel and the reference leave the same five results: `value_run` and `run` state both
   by the same mathematics (Proof/Value/Spec.lean). -/
module

public import proofs.«01_k».proof.Defs
public import proofs.«01_k».proof.Proof.Kernel.Regions
public import proofs.«01_k».proof.Proof.KernelIdeal.Regions
public import proofs.«01_k».proof.Proof.Gen.ReferenceIdeal.Frame
public import proofs.«01_k».proof.Proof.Value.KernelRun
public import proofs.«01_k».proof.Proof.Value.ReferenceRun

@[expose] public section

noncomputable section

namespace Cert.Proof

open Idealize.ShloMosaic Idealize.SL.Sem
open Cert.Proof.Spec

/-- The renamed constant: the word the kernel holds is the one rounded from the reciprocal of the logarithm of 2. -/
theorem preserves : Cert.preserves_Kernel_KernelIdeal :=
  IdealRules.named_const.statement Cert.KernelIdeal.κ "log2_e" .f32 0x3FB8AA3B#32 (((Real.log 2)⁻¹ : ℝ) : EReal) rfl

/-- The five results of the kernel are those of the reference. -/
theorem algebraic : Cert.algebraic_KernelIdeal_ReferenceIdeal (hKernelIdeal := Cert.KernelIdeal.Gen.facts)
    (hReferenceIdeal := Cert.ReferenceIdeal.Gen.facts) := by
  intro m g m' g' _ hm
  let X : Dev Cert.KernelIdeal.nD → FVec Ideal _ .bf16 := fun c => m ((c.tc : Thread Cert.KernelIdeal.nD Cert.KernelIdeal.τ).loc Cert.KernelIdeal.main_arg0)
  let W : Dev Cert.KernelIdeal.nD → FVec Ideal _ .f32 := fun c => m ((c.tc : Thread Cert.KernelIdeal.nD Cert.KernelIdeal.τ).loc Cert.KernelIdeal.main_arg1)
  refine ⟨fun c => prod (X c) (W c), fun c => codeX (X c), fun c => fun _ => scaleX (X c), fun c => codeW (W c), fun c => fun _ => scaleW (W c),
    Cert.KernelIdeal.Own.value_run m g, ?_⟩
  refine (θ_run _ _ _).mono (fun r h c => ?_) (Cert.ReferenceIdeal.Own.run m' g')
  have h' := h c
  obtain ⟨h0, h1, h2, h3, h4, h5, h6⟩ := h'
  obtain ⟨e0, e1⟩ := hm c
  rw [e0, e1] at h0
  rw [e0] at h1 h2
  rw [e1] at h3 h4
  exact ⟨h0, h1, h2, h3, h4, h5, h6⟩

/-- Every claim of the certificate. -/
theorem claim : Cert.Claim := ⟨Cert.Kernel.Gen.facts, Cert.KernelIdeal.Gen.facts, Cert.ReferenceIdeal.Gen.facts,
  fun m g _ => Cert.Kernel.Own.frame m g, fun m g _ => Cert.KernelIdeal.Own.frame m g, fun m g _ => Cert.ReferenceIdeal.Gen.frame m g,
  preserves, algebraic⟩

end Cert.Proof

end
